-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_complete [hPre_complete : Cert.Pre_complete.Facts] (m : (ℓ : Loc Cert.KernelIdeal.nD Cert.KernelIdeal.τ Cert.KernelIdeal.sig) → Buf (Elt Ideal) ℓ) : Prop :=
  ∀ c : Dev Cert.KernelIdeal.nD,
    (Cert.Pre_complete.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_complete [hPre_complete : Cert.Pre_complete.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_complete.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_KernelIdeal_pre_complete [hKernelIdeal : Cert.KernelIdeal.Facts] [hPre_complete : Cert.Pre_complete.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_complete m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def quiescent_ReferenceIdeal_pre_complete [hReferenceIdeal : Cert.ReferenceIdeal.Facts] [hPre_complete : Cert.Pre_complete.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_complete m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def preserves_Kernel_KernelIdeal : Prop :=
  True

def algebraic_KernelIdeal_ReferenceIdeal_pre_complete [hKernelIdeal : Cert.KernelIdeal.Facts] [hReferenceIdeal : Cert.ReferenceIdeal.Facts] [hPre_complete : Cert.Pre_complete.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_complete m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_complete : Cert.Pre_complete.Facts),
    quiescent_Kernel (hKernel := hKernel)
    ∧ quiescent_KernelIdeal (hKernelIdeal := hKernelIdeal)
    ∧ quiescent_KernelIdeal_pre_complete (hKernelIdeal := hKernelIdeal) (hPre_complete := hPre_complete)
    ∧ quiescent_ReferenceIdeal (hReferenceIdeal := hReferenceIdeal)
    ∧ quiescent_ReferenceIdeal_pre_complete (hReferenceIdeal := hReferenceIdeal) (hPre_complete := hPre_complete)
    ∧ preserves_Kernel_KernelIdeal
    ∧ algebraic_KernelIdeal_ReferenceIdeal_pre_complete (hKernelIdeal := hKernelIdeal) (hReferenceIdeal := hReferenceIdeal) (hPre_complete := hPre_complete)
-- ==== Pre_complete.lean ====
abbrev S128x128 : Shape := ⟨2, ![128, 128]⟩
abbrev S16384x64 : Shape := ⟨2, ![16384, 64]⟩
abbrev S1 : Shape := ⟨1, ![1]⟩
abbrev S64x768 : Shape := ⟨2, ![64, 768]⟩
abbrev S768 : Shape := ⟨1, ![768]⟩
abbrev S1792x128 : Shape := ⟨2, ![1792, 128]⟩
abbrev S128 : Shape := ⟨1, ![128]⟩
abbrev S128x1 : Shape := ⟨2, ![128, 1]⟩
abbrev S384x128 : Shape := ⟨2, ![384, 128]⟩
abbrev S512x128 : Shape := ⟨2, ![512, 128]⟩
abbrev S512x16 : Shape := ⟨2, ![512, 16]⟩
abbrev S16 : Shape := ⟨1, ![16]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S1792x128 : S_.BroadcastsInDim S1792x128 (![] : Fin 0 → Fin S1792x128.rank)
  reducesTo_S1792x128_S_d0_1 : S1792x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S512x128 : S_.BroadcastsInDim S512x128 (![] : Fin 0 → Fin S512x128.rank)
  reducesTo_S512x128_S_d0_1 : S512x128.ReducesTo [0, 1] S_

variable [Facts]

def fn_part3 {F : FTy → Type} [FloatOps F] (main_arg25 : FVec F S128 .f32) (main_v47 : IVec S_ 1) (main_v50 : IVec S384x128 1) : IVec S_ 1 :=
  let main_c_19 : IVec S_ 1 := constantI S_ 1 1#1
  let main_v51 : IVec S_ 1 := (fun x v => Host.reduce IntOp.andi x v reducesTo_S384x128_S_d0_1 h_S_) main_v50 main_c_19
  let main_v52 : IVec S_ 1 := andi main_v47 main_v51
  let main_v53 : FVec F S128 .f32 := subf main_arg25 main_arg25
  let main_cst_20 : FVec F S_ .f32 := constant S_ .f32 0x00000000#32
  let main_v54 : FVec F S128 .f32 := broadcastInDim S128 ![] bcast_S_S128 main_cst_20
  let main_v55 : IVec S128 1 := cmpf .oeq main_v53 main_v54
  let main_c_21 : IVec S_ 1 := constantI S_ 1 1#1
  let main_v56 : IVec S_ 1 := (fun x v => Host.reduce IntOp.andi x v reducesTo_S128_S_d0 h_S_) main_v55 main_c_21
  let main_v57 : IVec S_ 1 := andi main_v52 main_v56
  main_v57

def fn_part2 {F : FTy → Type} [FloatOps F] (main_arg18 : FVec F S128 .f32) (main_arg19 : FVec F S128 .f32) (main_arg24 : FVec F S384x128 .f32) (main_arg25 : FVec F S128 .f32) (main_v32 : IVec S_ 1) (main_v33 : FVec F S512x128 .f32) : IVec S_ 1 :=
  let main_cst_12 : FVec F S_ .f32 := constant S_ .f32 0x00000000#32
  let main_v34 : FVec F S512x128 .f32 := broadcastInDim S512x128 ![] bcast_S_S512x128 main_cst_12
  let main_v35 : IVec S512x128 1 := cmpf .oeq main_v33 main_v34
  let main_c_13 : IVec S_ 1 := constantI S_ 1 1#1
  let main_v36 : IVec S_ 1 := (fun x v => Host.reduce IntOp.andi x v reducesTo_S512x128_S_d0_1 h_S_) main_v35 main_c_13
  let main_v37 : IVec S_ 1 := andi main_v32 main_v36
  let main_v38 : FVec F S128 .f32 := subf main_arg18 main_arg18
  let main_cst_14 : FVec F S_ .f32 := constant S_ .f32 0x00000000#32
  let main_v39 : FVec F S128 .f32 := broadcastInDim S128 ![] bcast_S_S128 main_cst_14
  let main_v40 : IVec S128 1 := cmpf .oeq main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128 .f32 := subf main_arg19 main_arg19
  let main_cst_16 : FVec F S_ .f32 := constant S_ .f32 0x00000000#32
  let main_v44 : FVec F S128 .f32 := broadcastInDim S128 ![] bcast_S_S128 main_cst_16
  let main_v45 : IVec S128 1 := cmpf .oeq main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  let main_v48 : FVec F S384x128 .f32 := subf main_arg24 main_arg24
  let main_cst_18 : FVec F S_ .f32 := constant S_ .f32 0x00000000#32
  let main_v49 : FVec F S384x128 .f32 := broadcastInDim S384x128 ![] bcast_S_S384x128 main_cst_18
  let main_v50 : IVec S384x128 1 := cmpf .oeq main_v48 main_v49
  fn_part3 (F := F) main_arg25 main_v47 main_v50

def fn_part1 {F : FTy → Type} [FloatOps F] (main_arg8 : FVec F S128 .f32) (main_arg13 : FVec F S384x128 .f32) (main_arg14 : FVec F S128 .f32) (main_arg17 : FVec F S512x128 .f32) (main_arg18 : FVec F S128 .f32) (main_arg19 : FVec F S128 .f32) (main_arg24 : FVec F S384x128 .f32) (main_arg25 : FVec F S128 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128 .f32 := subf main_arg8 main_arg8
  let main_cst_6 : FVec F S_ .f32 := constant S_ .f32 0x00000000#32
  let main_v19 : FVec F S128 .f32 := broadcastInDim S128 ![] bcast_S_S128 main_cst_6
  let main_v20 : IVec S128 1 := cmpf .oeq main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S384x128 .f32 := subf main_arg13 main_arg13
  let main_cst_8 : FVec F S_ .f32 := constant S_ .f32 0x00000000#32
  let main_v24 : FVec F S384x128 .f32 := broadcastInDim S384x128 ![] bcast_S_S384x128 main_cst_8
  let main_v25 : IVec S384x128 1 := cmpf .oeq main_v23 main_v24
  let main_c_9 : IVec S_ 1 := constantI S_ 1 1#1
  let main_v26 : IVec S_ 1 := (fun x v => Host.reduce IntOp.andi x v reducesTo_S384x128_S_d0_1 h_S_) main_v25 main_c_9
  let main_v27 : IVec S_ 1 := andi main_v22 main_v26
  let main_v28 : FVec F S128 .f32 := subf main_arg14 main_arg14
  let main_cst_10 : FVec F S_ .f32 := constant S_ .f32 0x00000000#32
  let main_v29 : FVec F S128 .f32 := broadcastInDim S128 ![] bcast_S_S128 main_cst_10
  let main_v30 : IVec S128 1 := cmpf .oeq main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S512x128 .f32 := subf main_arg17 main_arg17
  fn_part2 (F := F) main_arg18 main_arg19 main_arg24 main_arg25 main_v32 main_v33

def fn {F : FTy → Type} [FloatOps F] (main_arg0 : FVec F S128x128 .f32) (main_arg1 : FVec F S128x128 .f32) (main_arg2 : FVec F S16384x64 .f32) (main_arg3 : FVec F S1 .f32) (main_arg4 : FVec F S64x768 .f32) (main_arg5 : FVec F S768 .f32) (main_arg6 : FVec F S1792x128 .f32) (main_arg7 : FVec F S128 .f32) (main_arg8 : FVec F S128 .f32) (main_arg9 : FVec F S128x1 .f32) (main_arg10 : FVec F S1 .f32) (main_arg11 : FVec F S128x1 .f32) (main_arg12 : FVec F S1 .f32) (main_arg13 : FVec F S384x128 .f32) (main_arg14 : FVec F S128 .f32) (main_arg15 : FVec F S128x128 .f32) (main_arg16 : FVec F S128 .f32) (main_arg17 : FVec F S512x128 .f32) (main_arg18 : FVec F S128 .f32) (main_arg19 : FVec F S128 .f32) (main_arg20 : FVec F S128x1 .f32) (main_arg21 : FVec F S1 .f32) (main_arg22 : FVec F S128x1 .f32) (main_arg23 : FVec F S1 .f32) (main_arg24 : FVec F S384x128 .f32) (main_arg25 : FVec F S128 .f32) (main_arg26 : FVec F S128x128 .f32) (main_arg27 : FVec F S128 .f32) (main_arg28 : FVec F S512x16 .f32) (main_arg29 : FVec F S16 .f32) : IVec S_ 1 :=
  let main_cst : FVec F S_ .f32 := constant S_ .f32 0x3F800000#32
  let main_v0 : FVec F S128x128 .f32 := broadcastInDim S128x128 ![] bcast_S_S128x128 main_cst
  let main_v1 : IVec S128x128 1 := cmpf .oeq main_arg1 main_v0
  let main_c : IVec S_ 1 := constantI S_ 1 1#1
  let main_v2 : IVec S_ 1 := (fun x v => Host.reduce IntOp.andi x v reducesTo_S128x128_S_d0_1 h_S_) main_v1 main_c
  let main_v3 : FVec F S128x128 .f32 := subf main_arg0 main_arg0
  let main_cst_0 : FVec F S_ .f32 := constant S_ .f32 0x00000000#32
  let main_v4 : FVec F S128x128 .f32 := broadcastInDim S128x128 ![] bcast_S_S128x128 main_cst_0
  let main_v5 : IVec S128x128 1 := cmpf .oeq main_v3 main_v4
  let main_c_1 : IVec S_ 1 := constantI S_ 1 1#1
  let main_v6 : IVec S_ 1 := (fun x v => Host.reduce IntOp.andi x v reducesTo_S128x128_S_d0_1 h_S_) main_v5 main_c_1
  let main_v7 : IVec S_ 1 := andi main_v2 main_v6
  let main_v8 : FVec F S1792x128 .f32 := subf main_arg6 main_arg6
  let main_cst_2 : FVec F S_ .f32 := constant S_ .f32 0x00000000#32
  let main_v9 : FVec F S1792x128 .f32 := broadcastInDim S1792x128 ![] bcast_S_S1792x128 main_cst_2
  let main_v10 : IVec S1792x128 1 := cmpf .oeq main_v8 main_v9
  let main_c_3 : IVec S_ 1 := constantI S_ 1 1#1
  let main_v11 : IVec S_ 1 := (fun x v => Host.reduce IntOp.andi x v reducesTo_S1792x128_S_d0_1 h_S_) main_v10 main_c_3
  let main_v12 : IVec S_ 1 := andi main_v7 main_v11
  let main_v13 : FVec F S128 .f32 := subf main_arg7 main_arg7
  let main_cst_4 : FVec F S_ .f32 := constant S_ .f32 0x00000000#32
  let main_v14 : FVec F S128 .f32 := broadcastInDim S128 ![] bcast_S_S128 main_cst_4
  let main_v15 : IVec S128 1 := cmpf .oeq main_v13 main_v14
  let main_c_5 : IVec S_ 1 := constantI S_ 1 1#1
  fn_part1 (F := F) main_arg8 main_arg13 main_arg14 main_arg17 main_arg18 main_arg19 main_arg24 main_arg25 main_v12 main_v15 main_c_5
-- ==== Kernel.lean ====
abbrev S128x128 : Shape := ⟨2, ![128, 128]⟩
abbrev S16384x64 : Shape := ⟨2, ![16384, 64]⟩
abbrev S1 : Shape := ⟨1, ![1]⟩
abbrev S64x768 : Shape := ⟨2, ![64, 768]⟩
abbrev S768 : Shape := ⟨1, ![768]⟩
abbrev S1792x128 : Shape := ⟨2, ![1792, 128]⟩
abbrev S128 : Shape := ⟨1, ![128]⟩
abbrev S128x1 : Shape := ⟨2, ![128, 1]⟩
abbrev S384x128 : Shape := ⟨2, ![384, 128]⟩
abbrev S512x128 : Shape := ⟨2, ![512, 128]⟩
abbrev S512x16 : Shape := ⟨2, ![512, 16]⟩
abbrev S16 : Shape := ⟨1, ![16]⟩
abbrev S768x128 : Shape := ⟨2, ![768, 128]⟩
abbrev S128x128x64 : Shape := ⟨3, ![128, 128, 64]⟩
abbrev S1x768 : Shape := ⟨2, ![1, 768]⟩
abbrev S768x256 : Shape := ⟨2, ![768, 256]⟩
abbrev S1x128 : Shape := ⟨2, ![1, 128]⟩
abbrev S1x1 : Shape := ⟨2, ![1, 1]⟩
abbrev S128x256 : Shape := ⟨2, ![128, 256]⟩
abbrev S128x16 : Shape := ⟨2, ![128, 16]⟩
abbrev S1x16 : Shape := ⟨2, ![1, 16]⟩
abbrev S32x128x64 : Shape := ⟨3, ![32, 128, 64]⟩
abbrev S128x128x128 : Shape := ⟨3, ![128, 128, 128]⟩
abbrev S4096x64 : Shape := ⟨2, ![4096, 64]⟩
abbrev S4096x768 : Shape := ⟨2, ![4096, 768]⟩
abbrev S4096x256 : Shape := ⟨2, ![4096, 256]⟩
abbrev S4096x128 : Shape := ⟨2, ![4096, 128]⟩
abbrev S32x128x128 : Shape := ⟨3, ![32, 128, 128]⟩
abbrev S128x32x128 : Shape := ⟨3, ![128, 32, 128]⟩
abbrev S32x128 : Shape := ⟨2, ![32, 128]⟩
abbrev S32x1x128 : Shape := ⟨3, ![32, 1, 128]⟩
abbrev S1x128x128 : Shape := ⟨3, ![1, 128, 128]⟩
abbrev S1x1x128 : Shape := ⟨3, ![1, 1, 128]⟩
abbrev S32x128x1 : Shape := ⟨3, ![32, 128, 1]⟩

abbrev nBuf : Space → Nat
  | .hbm => 71
  | .vmem => 56
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S16384x64, .f32⟩
  | .hbm, ⟨3, _⟩ => ⟨S1, .f32⟩
  | .hbm, ⟨4, _⟩ => ⟨S64x768, .f32⟩
  | .hbm, ⟨5, _⟩ => ⟨S768, .f32⟩
  | .hbm, ⟨6, _⟩ => ⟨S1792x128, .f32⟩
  | .hbm, ⟨7, _⟩ => ⟨S128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S128x1, .f32⟩
  | .hbm, ⟨12, _⟩ => ⟨S1, .f32⟩
  | .hbm, ⟨13, _⟩ => ⟨S384x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S512x128, .f32⟩
  | .hbm, ⟨18, _⟩ => ⟨S128, .f32⟩
  | .hbm, ⟨19, _⟩ => ⟨S128, .f32⟩
  | .hbm, ⟨20, _⟩ => ⟨S128x1, .f32⟩
  | .hbm, ⟨21, _⟩ => ⟨S1, .f32⟩
  | .hbm, ⟨22, _⟩ => ⟨S128x1, .f32⟩
  | .hbm, ⟨23, _⟩ => ⟨S1, .f32⟩
  | .hbm, ⟨24, _⟩ => ⟨S384x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S512x16, .f32⟩
  | .hbm, ⟨29, _⟩ => ⟨S16, .f32⟩
  | .hbm, ⟨30, _⟩ => ⟨S128x128, .f32⟩
  | .hbm, ⟨31, _⟩ => ⟨S128x128, .f32⟩
  | .hbm, ⟨32, _⟩ => ⟨S768x128, .f32⟩
  | .hbm, ⟨33, _⟩ => ⟨S768x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128x64, .f32⟩
  | .hbm, ⟨39, _⟩ => ⟨S1x768, .f32⟩
  | .hbm, ⟨40, _⟩ => ⟨S768x256, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x1, .f32⟩
  | .hbm, ⟨45, _⟩ => ⟨S1x128, .f32⟩
  | .hbm, ⟨46, _⟩ => ⟨S1x1, .f32⟩
  | .hbm, ⟨47, _⟩ => ⟨S1x128, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S128x256, .f32⟩
  | .hbm, ⟨55, _⟩ => ⟨S1x128, .f32⟩
  | .hbm, ⟨56, _⟩ => ⟨S1x1, .f32⟩
  | .hbm, ⟨57, _⟩ => ⟨S1x128, .f32⟩
  | .hbm, ⟨58, _⟩ => ⟨S1x1, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S1x128, .f32⟩
  | .hbm, ⟨64, _⟩ => ⟨S128x16, .f32⟩
  | .hbm, ⟨65, _⟩ => ⟨S128x16, .f32⟩
  | .hbm, ⟨66, _⟩ => ⟨S128x16, .f32⟩
  | .hbm, ⟨67, _⟩ => ⟨S128x16, .f32⟩
  | .hbm, ⟨68, _⟩ => ⟨S1x16, .f32⟩
  | .hbm, ⟨69, _⟩ => ⟨S1x16, .f32⟩
  | .hbm, ⟨70, _⟩ => ⟨S16, .f32⟩
  | .local _ .vmem, ⟨0, _⟩ => ⟨S32x128x64, .f32⟩
  | .local _ .vmem, ⟨1, _⟩ => ⟨S32x128x64, .f32⟩
  | .local _ .vmem, ⟨2, _⟩ => ⟨S128x128, .f32⟩
  | .local _ .vmem, ⟨3, _⟩ => ⟨S64x768, .f32⟩
  | .local _ .vmem, ⟨4, _⟩ => ⟨S1x768, .f32⟩
  | .local _ .vmem, ⟨5, _⟩ => ⟨S768x256, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S1x128, .f32⟩
  | .local _ .vmem, ⟨13, _⟩ => ⟨S1x1, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S128x256, .f32⟩
  | .local _ .vmem, ⟨25, _⟩ => ⟨S1x128, .f32⟩
  | .local _ .vmem, ⟨26, _⟩ => ⟨S1x1, .f32⟩
  | .local _ .vmem, ⟨27, _⟩ => ⟨S1x128, .f32⟩
  | .local _ .vmem, ⟨28, _⟩ => ⟨S1x1, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S128x16, .f32⟩
  | .local _ .vmem, ⟨36, _⟩ => ⟨S128x16, .f32⟩
  | .local _ .vmem, ⟨37, _⟩ => ⟨S128x16, .f32⟩
  | .local _ .vmem, ⟨38, _⟩ => ⟨S128x16, .f32⟩
  | .local _ .vmem, ⟨39, _⟩ => ⟨S1x16, .f32⟩
  | .local _ .vmem, ⟨40, _⟩ => ⟨S1x16, .f32⟩
  | .local _ .vmem, ⟨41, _⟩ => ⟨S128x128x128, .f32⟩
  | .local _ .vmem, ⟨42, _⟩ => ⟨S128x128x128, .f32⟩
  | .local _ .vmem, ⟨43, _⟩ => ⟨S128x128x128, .f32⟩
  | .local _ .vmem, ⟨44, _⟩ => ⟨S128x128x128, .f32⟩
  | .local _ .vmem, ⟨45, _⟩ => ⟨S128x128, .f32⟩
  | .local _ .vmem, ⟨46, _⟩ => ⟨S128x128, .f32⟩
  | .local _ .vmem, ⟨47, _⟩ => ⟨S128x128, .f32⟩
  | .local _ .vmem, ⟨48, _⟩ => ⟨S128x128, .f32⟩
  | .local _ .vmem, ⟨49, _⟩ => ⟨S128x128, .f32⟩
  | .local _ .vmem, ⟨50, _⟩ => ⟨S128x128, .f32⟩
  | .local _ .vmem, ⟨51, _⟩ => ⟨S128x128, .f32⟩
  | .local _ .vmem, ⟨52, _⟩ => ⟨S128x128, .f32⟩
  | .local _ .vmem, ⟨53, _⟩ => ⟨S128x128, .f32⟩
  | .local _ .vmem, ⟨54, _⟩ => ⟨S128x128, .f32⟩
  | .local _ .vmem, ⟨55, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg30_0 : Ref sig .tc := ⟨.vmem, 31, rfl⟩
abbrev cc0_stg31_0 : Ref sig .tc := ⟨.vmem, 32, rfl⟩
abbrev cc0_stg32_0 : Ref sig .tc := ⟨.vmem, 33, rfl⟩
abbrev cc0_stg33_0 : Ref sig .tc := ⟨.vmem, 34, rfl⟩
abbrev cc0_stg34_0 : Ref sig .tc := ⟨.vmem, 35, rfl⟩
abbrev cc0_stg35_0 : Ref sig .tc := ⟨.vmem, 36, rfl⟩
abbrev cc0_stg36_0 : Ref sig .tc := ⟨.vmem, 37, rfl⟩
abbrev cc0_stg37_0 : Ref sig .tc := ⟨.vmem, 38, rfl⟩
abbrev cc0_stg38_0 : Ref sig .tc := ⟨.vmem, 39, rfl⟩
abbrev cc0_stg39_0 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_scratch4 : Ref sig .tc := ⟨.vmem, 45, rfl⟩
abbrev cc0_scratch5 : Ref sig .tc := ⟨.vmem, 46, rfl⟩
abbrev cc0_scratch6 : Ref sig .tc := ⟨.vmem, 47, rfl⟩
abbrev cc0_scratch7 : Ref sig .tc := ⟨.vmem, 48, rfl⟩
abbrev cc0_scratch8 : Ref sig .tc := ⟨.vmem, 49, rfl⟩
abbrev cc0_scratch9 : Ref sig .tc := ⟨.vmem, 50, rfl⟩
abbrev cc0_scratch10 : Ref sig .tc := ⟨.vmem, 51, rfl⟩
abbrev cc0_scratch11 : Ref sig .tc := ⟨.vmem, 52, rfl⟩
abbrev cc0_scratch12 : Ref sig .tc := ⟨.vmem, 53, rfl⟩
abbrev cc0_scratch13 : Ref sig .tc := ⟨.vmem, 54, rfl⟩
abbrev cc0_scratch14 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem30_0 : DmaSem sig := 31
abbrev cc0_sem31_0 : DmaSem sig := 32
abbrev cc0_sem32_0 : DmaSem sig := 33
abbrev cc0_sem33_0 : DmaSem sig := 34
abbrev cc0_sem34_0 : DmaSem sig := 35
abbrev cc0_sem35_0 : DmaSem sig := 36
abbrev cc0_sem36_0 : DmaSem sig := 37
abbrev cc0_sem37_0 : DmaSem sig := 38
abbrev cc0_sem38_0 : DmaSem sig := 39
abbrev cc0_sem39_0 : DmaSem sig := 40

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let c32_i32 : BitVec 32 := 32#32
  let v27 : BitVec 32 := Scalar.muli arg0 c32_i32
  let v28 : Index := Scalar.indexCast v27
  let c0_13 : Index := 0#32
  let c0_14 : Index := 0#32
  ![v28.toNat, 0, 0]
def k0_off2 (i : grid0.Coords) : Fin 3 → Nat :=
  let c0_16 : Index := 0#32
  let arg0 : BitVec 32 := BitVec.ofNat 32 (i 0).val
  let c32_i32_15 : BitVec 32 := 32#32
  let v34 : BitVec 32 := Scalar.muli arg0 c32_i32_15
  let v35 : Index := Scalar.indexCast v34
  let c0_17 : Index := 0#32
  ![0, v35.toNat, 0]
def k0_cond3 (i : grid0.Coords) : BitVec 1 :=
  let arg0 : BitVec 32 := BitVec.ofNat 32 (i 0).val
  let c4_i32_0 : BitVec 32 := 4#32
  let v3 : BitVec 1 := Scalar.cmpi .sge arg0 c4_i32_0
  let c8_i32 : BitVec 32 := 8#32
  let v4 : BitVec 1 := Scalar.cmpi .slt arg0 c8_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off3 (i : grid0.Coords) : Fin 3 → Nat :=
  let arg0 : BitVec 32 := BitVec.ofNat 32 (i 0).val
  let c4_i32_4 : BitVec 32 := 4#32
  let v11 : BitVec 32 := Scalar.subi arg0 c4_i32_4
  let c32_i32 : BitVec 32 := 32#32
  let v12 : BitVec 32 := Scalar.muli v11 c32_i32
  let v13 : Index := Scalar.indexCast v12
  let c0 : Index := 0#32
  let c0_5 : Index := 0#32
  ![v13.toNat, 0, 0]
def k0_off4 (i : grid0.Coords) : Fin 2 → Nat :=
  let arg0 : BitVec 32 := BitVec.ofNat 32 (i 0).val
  let c4_i32_4 : BitVec 32 := 4#32
  let v11 : BitVec 32 := Scalar.subi arg0 c4_i32_4
  let c32_i32 : BitVec 32 := 32#32
  let v12 : BitVec 32 := Scalar.muli v11 c32_i32
  let v18 : Index := Scalar.indexCast v12
  let c0_8 : Index := 0#32
  ![v18.toNat, 0]
def k0_off5 (i : grid0.Coords) : Fin 3 → Nat :=
  let c0_43 : Index := 0#32
  let arg0 : BitVec 32 := BitVec.ofNat 32 (i 0).val
  let c4_i32_4 : BitVec 32 := 4#32
  let v11 : BitVec 32 := Scalar.subi arg0 c4_i32_4
  let c32_i32_42 : BitVec 32 := 32#32
  let v97 : BitVec 32 := Scalar.muli v11 c32_i32_42
  let v98 : Index := Scalar.indexCast v97
  let c0_44 : Index := 0#32
  ![0, v98.toNat, 0]
def k0_cond6 (i : grid0.Coords) : BitVec 1 :=
  let arg0 : BitVec 32 := BitVec.ofNat 32 (i 0).val
  let c8_i32_2 : BitVec 32 := 8#32
  let v8 : BitVec 1 := Scalar.cmpi .sge arg0 c8_i32_2
  let v9 : BitVec 32 := Scalar.extui v8
  let c0_i32_3 : BitVec 32 := 0#32
  let v10 : BitVec 1 := Scalar.cmpi .ne v9 c0_i32_3
  v10

def k0_off6 (i : grid0.Coords) : Fin 3 → Nat :=
  let arg0 : BitVec 32 := BitVec.ofNat 32 (i 0).val
  let c8_i32_4 : BitVec 32 := 8#32
  let v11 : BitVec 32 := Scalar.subi arg0 c8_i32_4
  let c32_i32 : BitVec 32 := 32#32
  let v15 : BitVec 32 := Scalar.muli v11 c32_i32
  let v16 : Index := Scalar.indexCast v15
  let c0 : Index := 0#32
  let c0_7 : Index := 0#32
  ![v16.toNat, 0, 0]
def k0_off7 (i : grid0.Coords) : Fin 2 → Nat :=
  let arg0 : BitVec 32 := BitVec.ofNat 32 (i 0).val
  let c8_i32_4 : BitVec 32 := 8#32
  let v11 : BitVec 32 := Scalar.subi arg0 c8_i32_4
  let c32_i32 : BitVec 32 := 32#32
  let v15 : BitVec 32 := Scalar.muli v11 c32_i32
  let v21 : Index := Scalar.indexCast v15
  let c0_10 : Index := 0#32
  ![v21.toNat, 0]
def k0_cond10 (i : grid0.Coords) : BitVec 1 :=
  let arg0 : BitVec 32 := BitVec.ofNat 32 (i 0).val
  let c8_i32_4 : BitVec 32 := 8#32
  let v11 : BitVec 32 := Scalar.subi arg0 c8_i32_4
  let c3_i32 : BitVec 32 := 3#32
  let v98 : BitVec 1 := Scalar.cmpi .eq v11 c3_i32
  let v99 : BitVec 32 := Scalar.extui v98
  let c0_i32_37 : BitVec 32 := 0#32
  let v100 : BitVec 1 := Scalar.cmpi .ne v99 c0_i32_37
  v100

def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S128x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S128x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S128x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S128x16 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S128x16 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S128x16 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S128x16 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S1x16 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S1x16 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]
-- ==== ReferenceIdeal.lean ====
abbrev S128x128 : Shape := ⟨2, ![128, 128]⟩
abbrev S16384x64 : Shape := ⟨2, ![16384, 64]⟩
abbrev S1 : Shape := ⟨1, ![1]⟩
abbrev S64x768 : Shape := ⟨2, ![64, 768]⟩
abbrev S768 : Shape := ⟨1, ![768]⟩
abbrev S1792x128 : Shape := ⟨2, ![1792, 128]⟩
abbrev S128 : Shape := ⟨1, ![128]⟩
abbrev S128x1 : Shape := ⟨2, ![128, 1]⟩
abbrev S384x128 : Shape := ⟨2, ![384, 128]⟩
abbrev S512x128 : Shape := ⟨2, ![512, 128]⟩
abbrev S512x16 : Shape := ⟨2, ![512, 16]⟩
abbrev S16 : Shape := ⟨1, ![16]⟩
abbrev S16384x768 : Shape := ⟨2, ![16384, 768]⟩
abbrev S1x768 : Shape := ⟨2, ![1, 768]⟩
abbrev S128x128x768 : Shape := ⟨3, ![128, 128, 768]⟩
abbrev S128x1x128 : Shape := ⟨3, ![128, 1, 128]⟩
abbrev S128x128x128 : Shape := ⟨3, ![128, 128, 128]⟩
abbrev S1x128x128 : Shape := ⟨3, ![1, 128, 128]⟩
abbrev S128x128x1792 : Shape := ⟨3, ![128, 128, 1792]⟩
abbrev S1x1x128 : Shape := ⟨3, ![1, 1, 128]⟩
abbrev S_ : Shape := ⟨0, ![]⟩
abbrev S128x128x1 : Shape := ⟨3, ![128, 128, 1]⟩
abbrev S1x1x1 : Shape := ⟨3, ![1, 1, 1]⟩
abbrev S128x384 : Shape := ⟨2, ![128, 384]⟩
abbrev S1x128 : Shape := ⟨2, ![1, 128]⟩
abbrev S128x128x512 : Shape := ⟨3, ![128, 128, 512]⟩
abbrev S16384x128 : Shape := ⟨2, ![16384, 128]⟩
abbrev S0x128 : Shape := ⟨2, ![0, 128]⟩
abbrev S127x128 : Shape := ⟨2, ![127, 128]⟩
abbrev S127x1 : Shape := ⟨2, ![127, 1]⟩
abbrev S127 : Shape := ⟨1, ![127]⟩
abbrev S1x1 : Shape := ⟨2, ![1, 1]⟩
abbrev S127x512 : Shape := ⟨2, ![127, 512]⟩
abbrev S512 : Shape := ⟨1, ![512]⟩

abbrev nBuf : Space → Nat
  | .hbm => 231
  | .vmem => 0
  | .smem => 0
  | _ => 0

abbrev hbmTy0_0 (i : Nat) : BufTy := match i % 128 with
  | 0 => ⟨S128x128, .f32⟩
  | 1 => ⟨S128x128, .f32⟩
  | 2 => ⟨S16384x64, .f32⟩
  | 3 => ⟨S1, .f32⟩
  | 4 => ⟨S64x768, .f32⟩
  | 5 => ⟨S768, .f32⟩
  | 6 => ⟨S1792x128, .f32⟩
  | 7 => ⟨S128, .f32⟩
  | 8 => ⟨S128, .f32⟩
  | 9 => ⟨S128x1, .f32⟩
  | 10 => ⟨S1, .f32⟩
  | 11 => ⟨S128x1, .f32⟩
  | 12 => ⟨S1, .f32⟩
  | 13 => ⟨S384x128, .f32⟩
  | 14 => ⟨S128, .f32⟩
  | 15 => ⟨S128x128, .f32⟩
  | 16 => ⟨S128, .f32⟩
  | 17 => ⟨S512x128, .f32⟩
  | 18 => ⟨S128, .f32⟩
  | 19 => ⟨S128, .f32⟩
  | 20 => ⟨S128x1, .f32⟩
  | 21 => ⟨S1, .f32⟩
  | 22 => ⟨S128x1, .f32⟩
  | 23 => ⟨S1, .f32⟩
  | 24 => ⟨S384x128, .f32⟩
  | 25 => ⟨S128, .f32⟩
  | 26 => ⟨S128x128, .f32⟩
  | 27 => ⟨S128, .f32⟩
  | 28 => ⟨S512x16, .f32⟩
  | 29 => ⟨S16, .f32⟩
  | 30 => ⟨S16384x768, .f32⟩
  | 31 => ⟨S1x768, .f32⟩
  | 32 => ⟨S16384x768, .f32⟩
  | 33 => ⟨S16384x768, .f32⟩
  | 34 => ⟨S16384x768, .f32⟩
  | 35 => ⟨S128x128x768, .f32⟩
  | 36 => ⟨S128x1x128, .f32⟩
  | 37 => ⟨S128x128x128, .f32⟩
  | 38 => ⟨S1x128x128, .f32⟩
  | 39 => ⟨S128x128x128, .f32⟩
  | 40 => ⟨S128x128x768, .f32⟩
  | 41 => ⟨S128x128x1792, .f32⟩
  | 42 => ⟨S128x128x128, .f32⟩
  | 43 => ⟨S1x1x128, .f32⟩
  | 44 => ⟨S128x128x128, .f32⟩
  | 45 => ⟨S128x128x128, .f32⟩
  | 46 => ⟨S_, .f32⟩
  | 47 => ⟨S128x128x128, .f32⟩
  | 48 => ⟨S128x128x128, .i1⟩
  | 49 => ⟨S1x1x128, .f32⟩
  | 50 => ⟨S128x128x128, .f32⟩
  | 51 => ⟨S128x128x128, .f32⟩
  | 52 => ⟨S128x128x128, .f32⟩
  | 53 => ⟨S128x128x1, .f32⟩
  | 54 => ⟨S1x1x1, .f32⟩
  | 55 => ⟨S128x128x1, .f32⟩
  | 56 => ⟨S128x128x1, .f32⟩
  | 57 => ⟨S128x128x1, .f32⟩
  | 58 => ⟨S128x128x1, .f32⟩
  | 59 => ⟨S_, .f32⟩
  | 60 => ⟨S128x128x1, .f32⟩
  | 61 => ⟨S128x128x1, .f32⟩
  | 62 => ⟨S_, .f32⟩
  | 63 => ⟨S128x128x1, .f32⟩
  | 64 => ⟨S128x128x1, .f32⟩
  | 65 => ⟨S128x128x1, .f32⟩
  | 66 => ⟨S1x1x1, .f32⟩
  | 67 => ⟨S128x128x1, .f32⟩
  | 68 => ⟨S128x128x1, .f32⟩
  | 69 => ⟨S128x128x1, .f32⟩
  | 70 => ⟨S128x128x1, .f32⟩
  | 71 => ⟨S_, .f32⟩
  | 72 => ⟨S128x128x1, .f32⟩
  | 73 => ⟨S128x128x1, .f32⟩
  | 74 => ⟨S_, .f32⟩
  | 75 => ⟨S128x128x1, .f32⟩
  | 76 => ⟨S128x128x1, .f32⟩
  | 77 => ⟨S128x128x1, .f32⟩
  | 78 => ⟨S128x128x128, .f32⟩
  | 79 => ⟨S128x128x128, .f32⟩
  | 80 => ⟨S128x128x128, .f32⟩
  | 81 => ⟨S128x128x128, .f32⟩
  | 82 => ⟨S_, .f32⟩
  | 83 => ⟨S128x128, .f32⟩
  | 84 => ⟨S128x128x128, .f32⟩
  | 85 => ⟨S128x128x128, .f32⟩
  | 86 => ⟨S128x128x128, .f32⟩
  | 87 => ⟨S128x128x128, .f32⟩
  | 88 => ⟨S_, .f32⟩
  | 89 => ⟨S128x128, .f32⟩
  | 90 => ⟨S128x384, .f32⟩
  | 91 => ⟨S128x128, .f32⟩
  | 92 => ⟨S1x128, .f32⟩
  | 93 => ⟨S128x128, .f32⟩
  | 94 => ⟨S128x128, .f32⟩
  | 95 => ⟨S_, .f32⟩
  | 96 => ⟨S128x128, .f32⟩
  | 97 => ⟨S128x128, .f32⟩
  | 98 => ⟨S128x128x128, .f32⟩
  | 99 => ⟨S1x1x128, .f32⟩
  | 100 => ⟨S128x128x128, .f32⟩
  | 101 => ⟨S128x128x128, .f32⟩
  | 102 => ⟨S128x128x128, .f32⟩
  | 103 => ⟨S128x1x128, .f32⟩
  | 104 => ⟨S128x128x128, .f32⟩
  | 105 => ⟨S1x128x128, .f32⟩
  | 106 => ⟨S128x128x128, .f32⟩
  | 107 => ⟨S128x128x128, .f32⟩
  | 108 => ⟨S128x128x512, .f32⟩
  | 109 => ⟨S128x128x128, .f32⟩
  | 110 => ⟨S1x1x128, .f32⟩
  | 111 => ⟨S128x128x128, .f32⟩
  | 112 => ⟨S128x128x128, .f32⟩
  | 113 => ⟨S_, .f32⟩
  | 114 => ⟨S128x128x128, .f32⟩
  | 115 => ⟨S128x128x128, .i1⟩
  | 116 => ⟨S1x1x128, .f32⟩
  | 117 => ⟨S128x128x128, .f32⟩
  | 118 => ⟨S128x128x128, .f32⟩
  | 119 => ⟨S128x128x128, .f32⟩
  | 120 => ⟨S128x128x1, .f32⟩
  | 121 => ⟨S1x1x1, .f32⟩
  | 122 => ⟨S128x128x1, .f32⟩
  | 123 => ⟨S128x128x1, .f32⟩
  | 124 => ⟨S128x128x1, .f32⟩
  | 125 => ⟨S128x128x1, .f32⟩
  | 126 => ⟨S_, .f32⟩
  | 127 => ⟨S128x128x1, .f32⟩
  | _ => ⟨S128x128, .f32⟩

abbrev hbmTy0_1 (i : Nat) : BufTy := match i % 128 with
  | 0 => ⟨S128x128x1, .f32⟩
  | 1 => ⟨S_, .f32⟩
  | 2 => ⟨S128x128x1, .f32⟩
  | 3 => ⟨S128x128x1, .f32⟩
  | 4 => ⟨S128x128x1, .f32⟩
  | 5 => ⟨S1x1x1, .f32⟩
  | 6 => ⟨S128x128x1, .f32⟩
  | 7 => ⟨S128x128x1, .f32⟩
  | 8 => ⟨S128x128x1, .f32⟩
  | 9 => ⟨S128x128x1, .f32⟩
  | 10 => ⟨S_, .f32⟩
  | 11 => ⟨S128x128x1, .f32⟩
  | 12 => ⟨S128x128x1, .f32⟩
  | 13 => ⟨S_, .f32⟩
  | 14 => ⟨S128x128x1, .f32⟩
  | 15 => ⟨S128x128x1, .f32⟩
  | 16 => ⟨S128x128x1, .f32⟩
  | 17 => ⟨S128x128x128, .f32⟩
  | 18 => ⟨S128x128x128, .f32⟩
  | 19 => ⟨S128x128x128, .f32⟩
  | 20 => ⟨S128x128x128, .f32⟩
  | 21 => ⟨S_, .f32⟩
  | 22 => ⟨S128x128, .f32⟩
  | 23 => ⟨S128x128x128, .f32⟩
  | 24 => ⟨S128x128x128, .f32⟩
  | 25 => ⟨S128x128x128, .f32⟩
  | 26 => ⟨S128x128x128, .f32⟩
  | 27 => ⟨S_, .f32⟩
  | 28 => ⟨S128x128, .f32⟩
  | 29 => ⟨S128x384, .f32⟩
  | 30 => ⟨S128x128, .f32⟩
  | 31 => ⟨S1x128, .f32⟩
  | 32 => ⟨S128x128, .f32⟩
  | 33 => ⟨S128x128, .f32⟩
  | 34 => ⟨S_, .f32⟩
  | 35 => ⟨S128x128, .f32⟩
  | 36 => ⟨S128x128, .f32⟩
  | 37 => ⟨S128x128x128, .f32⟩
  | 38 => ⟨S1x1x128, .f32⟩
  | 39 => ⟨S128x128x128, .f32⟩
  | 40 => ⟨S128x128x128, .f32⟩
  | 41 => ⟨S128x128x128, .f32⟩
  | 42 => ⟨S16384x128, .f32⟩
  | 43 => ⟨S1x128, .f32⟩
  | 44 => ⟨S128, .f32⟩
  | 45 => ⟨S0x128, .f32⟩
  | 46 => ⟨S127x128, .f32⟩
  | 47 => ⟨S127x128, .f32⟩
  | 48 => ⟨S_, .f32⟩
  | 49 => ⟨S127x1, .f32⟩
  | 50 => ⟨S1x128, .f32⟩
  | 51 => ⟨S127x128, .f32⟩
  | 52 => ⟨S127x128, .f32⟩
  | 53 => ⟨S127x128, .f32⟩
  | 54 => ⟨S127x128, .f32⟩
  | 55 => ⟨S127, .i32⟩
  | 56 => ⟨S_, .i32⟩
  | 57 => ⟨S127, .i32⟩
  | 58 => ⟨S127, .i32⟩
  | 59 => ⟨S_, .i32⟩
  | 60 => ⟨S127, .i32⟩
  | 61 => ⟨S127, .i32⟩
  | 62 => ⟨S_, .i32⟩
  | 63 => ⟨S127, .i32⟩
  | 64 => ⟨S127, .i1⟩
  | 65 => ⟨S_, .i32⟩
  | 66 => ⟨S127, .i32⟩
  | 67 => ⟨S127, .i32⟩
  | 68 => ⟨S127, .i32⟩
  | 69 => ⟨S127x1, .i32⟩
  | 70 => ⟨S1, .i32⟩
  | 71 => ⟨S_, .i32⟩
  | 72 => ⟨S127x1, .i32⟩
  | 73 => ⟨S127x1, .i1⟩
  | 74 => ⟨S1x1, .i32⟩
  | 75 => ⟨S127x1, .i32⟩
  | 76 => ⟨S127x1, .i1⟩
  | 77 => ⟨S127x1, .i1⟩
  | 78 => ⟨S_, .i1⟩
  | 79 => ⟨S127, .i1⟩
  | 80 => ⟨S127x128, .f32⟩
  | 81 => ⟨S127x128, .i1⟩
  | 82 => ⟨S_, .f32⟩
  | 83 => ⟨S127x128, .f32⟩
  | 84 => ⟨S127x128, .f32⟩
  | 85 => ⟨S127x512, .f32⟩
  | 86 => ⟨S_, .f32⟩
  | 87 => ⟨S512, .f32⟩
  | 88 => ⟨S16, .f32⟩
  | 89 => ⟨S16, .f32⟩
  | 90 => ⟨S_, .f32⟩
  | 91 => ⟨S_, .f32⟩
  | 92 => ⟨S_, .f32⟩
  | 93 => ⟨S_, .f32⟩
  | 94 => ⟨S1, .f32⟩
  | 95 => ⟨S16, .f32⟩
  | 96 => ⟨S16, .f32⟩
  | 97 => ⟨S16, .f32⟩
  | 98 => ⟨S_, .f32⟩
  | 99 => ⟨S_, .f32⟩
  | 100 => ⟨S1, .f32⟩
  | 101 => ⟨S16, .f32⟩
  | 102 => ⟨S16, .f32⟩
  | _ => ⟨S128x128, .f32⟩

abbrev hbmTy (i : Nat) : BufTy := match i / 128 with
  | 0 => hbmTy0_0 i
  | 1 => hbmTy0_1 i
  | _ => ⟨S128x128, .f32⟩

abbrev bufTy : (tb : Table) → Fin (tcTables nBuf tb) → BufTy
  | .hbm, ⟨i, _⟩ => hbmTy i
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_0 : Ref sig .tc := ⟨.hbm, 59, rfl⟩
abbrev main_v28 : Ref sig .tc := ⟨.hbm, 60, rfl⟩
abbrev main_v29 : Ref sig .tc := ⟨.hbm, 61, rfl⟩
abbrev main_cst_1 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_2 : Ref sig .tc := ⟨.hbm, 71, rfl⟩
abbrev main_v38 : Ref sig .tc := ⟨.hbm, 72, rfl⟩
abbrev main_v39 : Ref sig .tc := ⟨.hbm, 73, rfl⟩
abbrev main_cst_3 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_4 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_5 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call1_cst : Ref sig .tc := ⟨.hbm, 95, rfl⟩
abbrev main_call1_v0 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_6 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_7 : Ref sig .tc := ⟨.hbm, 126, rfl⟩
abbrev main_v86 : Ref sig .tc := ⟨.hbm, 127, rfl⟩
abbrev main_v87 : Ref sig .tc := ⟨.hbm, 128, rfl⟩
abbrev main_cst_8 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_9 : Ref sig .tc := ⟨.hbm, 138, rfl⟩
abbrev main_v96 : Ref sig .tc := ⟨.hbm, 139, rfl⟩
abbrev main_v97 : Ref sig .tc := ⟨.hbm, 140, rfl⟩
abbrev main_cst_10 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_11 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_12 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_call3_cst : Ref sig .tc := ⟨.hbm, 162, rfl⟩
abbrev main_call3_v0 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_13 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_c : Ref sig .tc := ⟨.hbm, 184, rfl⟩
abbrev main_v135 : Ref sig .tc := ⟨.hbm, 185, rfl⟩
abbrev main_v136 : Ref sig .tc := ⟨.hbm, 186, rfl⟩
abbrev main_c_14 : Ref sig .tc := ⟨.hbm, 187, rfl⟩
abbrev main_v137 : Ref sig .tc := ⟨.hbm, 188, rfl⟩
abbrev main_v138 : Ref sig .tc := ⟨.hbm, 189, rfl⟩
abbrev main_call4_c : Ref sig .tc := ⟨.hbm, 190, rfl⟩
abbrev main_call4_v0 : Ref sig .tc := ⟨.hbm, 191, rfl⟩
abbrev main_call4_v1 : Ref sig .tc := ⟨.hbm, 192, rfl⟩
abbrev main_call4_c_0 : Ref sig .tc := ⟨.hbm, 193, rfl⟩
abbrev main_call4_v2 : Ref sig .tc := ⟨.hbm, 194, rfl⟩
abbrev main_call4_v3 : Ref sig .tc := ⟨.hbm, 195, rfl⟩
abbrev main_call4_v4 : Ref sig .tc := ⟨.hbm, 196, rfl⟩
abbrev main_call4_v5 : Ref sig .tc := ⟨.hbm, 197, rfl⟩
abbrev main_call4_c_1 : Ref sig .tc := ⟨.hbm, 198, rfl⟩
abbrev main_call4_c_2 : Ref sig .tc := ⟨.hbm, 199, rfl⟩
abbrev main_call4_v6 : Ref sig .tc := ⟨.hbm, 200, rfl⟩
abbrev main_call4_v7 : Ref sig .tc := ⟨.hbm, 201, rfl⟩
abbrev main_call4_v8 : Ref sig .tc := ⟨.hbm, 202, rfl⟩
abbrev main_call4_v9 : Ref sig .tc := ⟨.hbm, 203, rfl⟩
abbrev main_call4_v10 : Ref sig .tc := ⟨.hbm, 204, rfl⟩
abbrev main_call4_v11 : Ref sig .tc := ⟨.hbm, 205, rfl⟩
abbrev main_call4_c_3 : Ref sig .tc := ⟨.hbm, 206, rfl⟩
abbrev main_call4_v12 : Ref sig .tc := ⟨.hbm, 207, rfl⟩
abbrev main_call4_v13 : Ref sig .tc := ⟨.hbm, 208, rfl⟩
abbrev main_call4_v14 : Ref sig .tc := ⟨.hbm, 209, rfl⟩
abbrev main_call4_cst : Ref sig .tc := ⟨.hbm, 210, rfl⟩
abbrev main_call4_v15 : Ref sig .tc := ⟨.hbm, 211, rfl⟩
abbrev main_v139 : Ref sig .tc := ⟨.hbm, 212, rfl⟩
abbrev main_v140 : Ref sig .tc := ⟨.hbm, 213, rfl⟩
abbrev main_cst_15 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_cst_16 : Ref sig .tc := ⟨.hbm, 218, rfl⟩
abbrev main_v144 : Ref sig .tc := ⟨.hbm, 219, rfl⟩
abbrev main_cst_17 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_cst_18 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩

abbrev nD : Nat := 1
abbrev τ : Topo := Topo.v7x

variable {F : FTy → Type} [FloatOps F]
-- ==== Proof.Same.Body.lean ====
module

public import proofs.«01_k».proof.Kernel
public import proofs.«01_k».proof.KernelIdeal
public import proofs.«01_k».proof.Proof.Gen.Kernel
public import proofs.«01_k».proof.Proof.Gen.KernelIdeal

@[expose] public section

set_option maxRecDepth 16384
set_option maxHeartbeats 4000000

/-! # One body under two names

The kernel and its idealization are printed as two modules with the same statements, so that what is proved of one for
floats of any kind holds of the other. Here: the parts of the body, and the body, are equal. -/

namespace Cert.Same

open Idealize.ShloMosaic Cert

variable {F : FTy → Type} [FloatOps F]

theorem part1_eq : @Kernel.k0_part1 F _ _ = @KernelIdeal.k0_part1 F _ _ := rfl
theorem part2_eq : @Kernel.k0_part2 F _ _ = @KernelIdeal.k0_part2 F _ _ := rfl
theorem part3_eq : @Kernel.k0_part3 F _ _ = @KernelIdeal.k0_part3 F _ _ := rfl
theorem part4_eq : @Kernel.k0_part4 F _ _ = @KernelIdeal.k0_part4 F _ _ := rfl
theorem part5_eq : @Kernel.k0_part5 F _ _ = @KernelIdeal.k0_part5 F _ _ := rfl
theorem part6_eq : @Kernel.k0_part6 F _ _ = @KernelIdeal.k0_part6 F _ _ := rfl
theorem part7_eq : @Kernel.k0_part7 F _ _ = @KernelIdeal.k0_part7 F _ _ := rfl

/-- The two bodies are the same program. -/
theorem body_eq : @Kernel.cc0__fused_kernel F _ _ = @KernelIdeal.cc0__fused_kernel F _ _ := rfl

end Cert.Same
-- ==== Proof.Same.Run.lean ====
module

public import proofs.«01_k».proof.Proof.Same.Body

@[expose] public section

set_option maxRecDepth 16384
set_option maxHeartbeats 4000000

/-! # One program under two names

The tables of bodies and the main programs of the kernel and of its idealization are equal, so that they run alike. -/

namespace Cert.Same

open Idealize.ShloMosaic Idealize.SL.Sem Cert

variable {F : FTy → Type} [FloatOps F]

/-- The main programs are the same. -/
theorem main_eq : Kernel.main (F := F) = KernelIdeal.main (F := F) := rfl

/-- The tables of kernel bodies are the same: only the TensorCore has a body, and there is one label. -/
theorem bodies_eq : Kernel.defs₀ (F := F) = KernelIdeal.defs₀ (F := F) := by
  funext p l a
  cases p with
  | tc =>
    match l, a with
    | 0, (t, s) => with_unfolding_all rfl
    | ⟨_ + 1, h⟩, _ => exact absurd h (Nat.not_lt.2 (Nat.le_add_left _ _))
  | scScalar => rfl
  | scVector => rfl

/-- The tables with the pipelines around the bodies are the same. -/
theorem defs_eq : Kernel.defs (F := F) = KernelIdeal.defs (F := F) :=
  congrArg (Pipeline.defs KernelIdeal.pcfgs) bodies_eq

end Cert.Same
-- ==== Proof.KernelIdeal.Args.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! # What one grid point of the fused kernel holds

The kernel's 55 buffers, the contents of its 39 input blocks and of its 15 scratch arrays as three records, with the
ownership of each record written once. -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The buffers the body is called with: inputs 1 to 39, the output 40, the scratch arrays 41 to 55. -/
structure Bufs where
  a1 : Memref sig .tc .vmem S32x128x64 .f32
  h1 : a1.IsWhole
  a2 : Memref sig .tc .vmem S128x128 .f32
  h2 : a2.IsWhole
  a3 : Memref sig .tc .vmem S64x768 .f32
  h3 : a3.IsWhole
  a4 : Memref sig .tc .vmem S1x768 .f32
  h4 : a4.IsWhole
  a5 : Memref sig .tc .vmem S768x256 .f32
  h5 : a5.IsWhole
  a6 : Memref sig .tc .vmem S128x128 .f32
  h6 : a6.IsWhole
  a7 : Memref sig .tc .vmem S128x128 .f32
  h7 : a7.IsWhole
  a8 : Memref sig .tc .vmem S1x128 .f32
  h8 : a8.IsWhole
  a9 : Memref sig .tc .vmem S1x128 .f32
  h9 : a9.IsWhole
  a10 : Memref sig .tc .vmem S1x128 .f32
  h10 : a10.IsWhole
  a11 : Memref sig .tc .vmem S1x1 .f32
  h11 : a11.IsWhole
  a12 : Memref sig .tc .vmem S1x128 .f32
  h12 : a12.IsWhole
  a13 : Memref sig .tc .vmem S1x1 .f32
  h13 : a13.IsWhole
  a14 : Memref sig .tc .vmem S128x128 .f32
  h14 : a14.IsWhole
  a15 : Memref sig .tc .vmem S1x128 .f32
  h15 : a15.IsWhole
  a16 : Memref sig .tc .vmem S128x128 .f32
  h16 : a16.IsWhole
  a17 : Memref sig .tc .vmem S128x128 .f32
  h17 : a17.IsWhole
  a18 : Memref sig .tc .vmem S128x128 .f32
  h18 : a18.IsWhole
  a19 : Memref sig .tc .vmem S1x128 .f32
  h19 : a19.IsWhole
  a20 : Memref sig .tc .vmem S128x128 .f32
  h20 : a20.IsWhole
  a21 : Memref sig .tc .vmem S128x128 .f32
  h21 : a21.IsWhole
  a22 : Memref sig .tc .vmem S1x128 .f32
  h22 : a22.IsWhole
  a23 : Memref sig .tc .vmem S1x128 .f32
  h23 : a23.IsWhole
  a24 : Memref sig .tc .vmem S128x256 .f32
  h24 : a24.IsWhole
  a25 : Memref sig .tc .vmem S1x128 .f32
  h25 : a25.IsWhole
  a26 : Memref sig .tc .vmem S1x1 .f32
  h26 : a26.IsWhole
  a27 : Memref sig .tc .vmem S1x128 .f32
  h27 : a27.IsWhole
  a28 : Memref sig .tc .vmem S1x1 .f32
  h28 : a28.IsWhole
  a29 : Memref sig .tc .vmem S128x128 .f32
  h29 : a29.IsWhole
  a30 : Memref sig .tc .vmem S128x128 .f32
  h30 : a30.IsWhole
  a31 : Memref sig .tc .vmem S128x128 .f32
  h31 : a31.IsWhole
  a32 : Memref sig .tc .vmem S1x128 .f32
  h32 : a32.IsWhole
  a33 : Memref sig .tc .vmem S128x128 .f32
  h33 : a33.IsWhole
  a34 : Memref sig .tc .vmem S1x128 .f32
  h34 : a34.IsWhole
  a35 : Memref sig .tc .vmem S128x16 .f32
  h35 : a35.IsWhole
  a36 : Memref sig .tc .vmem S128x16 .f32
  h36 : a36.IsWhole
  a37 : Memref sig .tc .vmem S128x16 .f32
  h37 : a37.IsWhole
  a38 : Memref sig .tc .vmem S128x16 .f32
  h38 : a38.IsWhole
  a39 : Memref sig .tc .vmem S1x16 .f32
  h39 : a39.IsWhole
  a40 : Memref sig .tc .vmem S1x16 .f32
  h40 : a40.IsWhole
  a41 : Memref sig .tc .vmem S128x128x128 .f32
  h41 : a41.IsWhole
  a42 : Memref sig .tc .vmem S128x128x128 .f32
  h42 : a42.IsWhole
  a43 : Memref sig .tc .vmem S128x128x128 .f32
  h43 : a43.IsWhole
  a44 : Memref sig .tc .vmem S128x128x128 .f32
  h44 : a44.IsWhole
  a45 : Memref sig .tc .vmem S128x128 .f32
  h45 : a45.IsWhole
  a46 : Memref sig .tc .vmem S128x128 .f32
  h46 : a46.IsWhole
  a47 : Memref sig .tc .vmem S128x128 .f32
  h47 : a47.IsWhole
  a48 : Memref sig .tc .vmem S128x128 .f32
  h48 : a48.IsWhole
  a49 : Memref sig .tc .vmem S128x128 .f32
  h49 : a49.IsWhole
  a50 : Memref sig .tc .vmem S128x128 .f32
  h50 : a50.IsWhole
  a51 : Memref sig .tc .vmem S128x128 .f32
  h51 : a51.IsWhole
  a52 : Memref sig .tc .vmem S128x128 .f32
  h52 : a52.IsWhole
  a53 : Memref sig .tc .vmem S128x128 .f32
  h53 : a53.IsWhole
  a54 : Memref sig .tc .vmem S128x128 .f32
  h54 : a54.IsWhole
  a55 : Memref sig .tc .vmem S128x128 .f32
  h55 : a55.IsWhole

/-- The contents of the input blocks. -/
structure Ins (F : FTy → Type) [FloatOps F] where
  x1 : Vec F S32x128x64 .f32
  x2 : Vec F S128x128 .f32
  x3 : Vec F S64x768 .f32
  x4 : Vec F S1x768 .f32
  x5 : Vec F S768x256 .f32
  x6 : Vec F S128x128 .f32
  x7 : Vec F S128x128 .f32
  x8 : Vec F S1x128 .f32
  x9 : Vec F S1x128 .f32
  x10 : Vec F S1x128 .f32
  x11 : Vec F S1x1 .f32
  x12 : Vec F S1x128 .f32
  x13 : Vec F S1x1 .f32
  x14 : Vec F S128x128 .f32
  x15 : Vec F S1x128 .f32
  x16 : Vec F S128x128 .f32
  x17 : Vec F S128x128 .f32
  x18 : Vec F S128x128 .f32
  x19 : Vec F S1x128 .f32
  x20 : Vec F S128x128 .f32
  x21 : Vec F S128x128 .f32
  x22 : Vec F S1x128 .f32
  x23 : Vec F S1x128 .f32
  x24 : Vec F S128x256 .f32
  x25 : Vec F S1x128 .f32
  x26 : Vec F S1x1 .f32
  x27 : Vec F S1x128 .f32
  x28 : Vec F S1x1 .f32
  x29 : Vec F S128x128 .f32
  x30 : Vec F S128x128 .f32
  x31 : Vec F S128x128 .f32
  x32 : Vec F S1x128 .f32
  x33 : Vec F S128x128 .f32
  x34 : Vec F S1x128 .f32
  x35 : Vec F S128x16 .f32
  x36 : Vec F S128x16 .f32
  x37 : Vec F S128x16 .f32
  x38 : Vec F S128x16 .f32
  x39 : Vec F S1x16 .f32

/-- The contents of the scratch arrays. -/
@[ext] structure Scr (F : FTy → Type) [FloatOps F] where
  p : Vec F S128x128x128 .f32
  qt : Vec F S128x128x128 .f32
  p2 : Vec F S128x128x128 .f32
  q2t : Vec F S128x128x128 .f32
  xi1 : Vec F S128x128 .f32
  xj1 : Vec F S128x128 .f32
  inc1 : Vec F S128x128 .f32
  outg1 : Vec F S128x128 .f32
  x1 : Vec F S128x128 .f32
  xi2 : Vec F S128x128 .f32
  xj2 : Vec F S128x128 .f32
  inc2 : Vec F S128x128 .f32
  outg2 : Vec F S128x128 .f32
  anti : Vec F S128x128 .f32
  row0 : Vec F S128x128 .f32

/-- The body called with these buffers at grid point `i`. -/
abbrev Bufs.body (A : Bufs) (i : grid0.Coords) : Prog (TpuEff nD τ sig (Elt F) Λ₀ .tc) PUnit :=
  cc0__fused_kernel i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33 A.a34 A.h34 A.a35 A.h35 A.a36 A.h36 A.a37 A.h37 A.a38 A.h38 A.a39 A.h39 A.a40 A.h40 A.a41 A.h41 A.a42 A.h42 A.a43 A.h43 A.a44 A.h44 A.a45 A.h45 A.a46 A.h46 A.a47 A.h47 A.a48 A.h48 A.a49 A.h49 A.a50 A.h50 A.a51 A.h51 A.a52 A.h52 A.a53 A.h53 A.a54 A.h54 A.a55 A.h55

/-- The input blocks, each owned at its contents. -/
def Bufs.insOwn (A : Bufs) (c : Dev nD) (X : Ins F) : sProp 𝕄 :=
  iprop(owns (c : Thread nD τ) A.a1 fullShare X.x1 ∗ owns (c : Thread nD τ) A.a2 fullShare X.x2 ∗ owns (c : Thread nD τ) A.a3 fullShare X.x3 ∗ owns (c : Thread nD τ) A.a4 fullShare X.x4 ∗ owns (c : Thread nD τ) A.a5 fullShare X.x5 ∗ owns (c : Thread nD τ) A.a6 fullShare X.x6 ∗ owns (c : Thread nD τ) A.a7 fullShare X.x7 ∗ owns (c : Thread nD τ) A.a8 fullShare X.x8 ∗ owns (c : Thread nD τ) A.a9 fullShare X.x9 ∗ owns (c : Thread nD τ) A.a10 fullShare X.x10 ∗ owns (c : Thread nD τ) A.a11 fullShare X.x11 ∗ owns (c : Thread nD τ) A.a12 fullShare X.x12 ∗ owns (c : Thread nD τ) A.a13 fullShare X.x13 ∗ owns (c : Thread nD τ) A.a14 fullShare X.x14 ∗ owns (c : Thread nD τ) A.a15 fullShare X.x15 ∗ owns (c : Thread nD τ) A.a16 fullShare X.x16 ∗ owns (c : Thread nD τ) A.a17 fullShare X.x17 ∗ owns (c : Thread nD τ) A.a18 fullShare X.x18 ∗ owns (c : Thread nD τ) A.a19 fullShare X.x19 ∗ owns (c : Thread nD τ) A.a20 fullShare X.x20 ∗ owns (c : Thread nD τ) A.a21 fullShare X.x21 ∗ owns (c : Thread nD τ) A.a22 fullShare X.x22 ∗ owns (c : Thread nD τ) A.a23 fullShare X.x23 ∗ owns (c : Thread nD τ) A.a24 fullShare X.x24 ∗ owns (c : Thread nD τ) A.a25 fullShare X.x25 ∗ owns (c : Thread nD τ) A.a26 fullShare X.x26 ∗ owns (c : Thread nD τ) A.a27 fullShare X.x27 ∗ owns (c : Thread nD τ) A.a28 fullShare X.x28 ∗ owns (c : Thread nD τ) A.a29 fullShare X.x29 ∗ owns (c : Thread nD τ) A.a30 fullShare X.x30 ∗ owns (c : Thread nD τ) A.a31 fullShare X.x31 ∗ owns (c : Thread nD τ) A.a32 fullShare X.x32 ∗ owns (c : Thread nD τ) A.a33 fullShare X.x33 ∗ owns (c : Thread nD τ) A.a34 fullShare X.x34 ∗ owns (c : Thread nD τ) A.a35 fullShare X.x35 ∗ owns (c : Thread nD τ) A.a36 fullShare X.x36 ∗ owns (c : Thread nD τ) A.a37 fullShare X.x37 ∗ owns (c : Thread nD τ) A.a38 fullShare X.x38 ∗ owns (c : Thread nD τ) A.a39 fullShare X.x39)

/-- The scratch arrays, each owned at its contents. -/
def Bufs.scrOwn (A : Bufs) (c : Dev nD) (S : Scr F) : sProp 𝕄 :=
  iprop(owns (c : Thread nD τ) A.a41 fullShare S.p ∗ owns (c : Thread nD τ) A.a42 fullShare S.qt ∗ owns (c : Thread nD τ) A.a43 fullShare S.p2 ∗ owns (c : Thread nD τ) A.a44 fullShare S.q2t ∗ owns (c : Thread nD τ) A.a45 fullShare S.xi1 ∗ owns (c : Thread nD τ) A.a46 fullShare S.xj1 ∗ owns (c : Thread nD τ) A.a47 fullShare S.inc1 ∗ owns (c : Thread nD τ) A.a48 fullShare S.outg1 ∗ owns (c : Thread nD τ) A.a49 fullShare S.x1 ∗ owns (c : Thread nD τ) A.a50 fullShare S.xi2 ∗ owns (c : Thread nD τ) A.a51 fullShare S.xj2 ∗ owns (c : Thread nD τ) A.a52 fullShare S.inc2 ∗ owns (c : Thread nD τ) A.a53 fullShare S.outg2 ∗ owns (c : Thread nD τ) A.a54 fullShare S.anti ∗ owns (c : Thread nD τ) A.a55 fullShare S.row0)

end Cert.KernelIdeal.Fused
-- ==== Proof.KernelIdeal.Steps.lean ====
module

public import proofs.«01_k».proof.Proof.KernelIdeal.Args
public import Idealize.ShloMosaic.Lib.VecWindow

@[expose] public section

set_option maxRecDepth 16384

noncomputable section

/-! # What one grid point does to the scratch arrays

Three phases of four points each: the first projects the edge features, the second is the first graph layer, the third
the second layer and, at its last point, the readout. Each phase's effect is a function of the input blocks and of the
scratch arrays before the point. -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open VecWindow (window put)

/-- Phase one at grid point `i`: the rows of `p` and the columns of `qt` that the block of edges gives. -/
def stepA (i : grid0.Coords) (X : Ins F) (S : Scr F) : Scr F :=
  { S with
    p := put S.p (k0_off1 i) S32x128x128.size (k0_pay2 X.x1 X.x3 X.x4 X.x5)
    qt := put S.qt (k0_off2 i) S128x32x128.size (k0_pay3 X.x1 X.x3 X.x4 X.x5) }

/-- Phase one's first point also projects the nodes. -/
def stepA0 (i : grid0.Coords) (X : Ins F) (S : Scr F) : Scr F :=
  { stepA i X S with xi1 := k0_pay4 X.x2 X.x6 X.x8, xj1 := k0_pay5 X.x2 X.x7 }

/-- The first layer's features of the 32 rows of pairs at point `i`. -/
def pairsB (i : grid0.Coords) (h : k0_cond3 i = 1#1) (X : Ins F) (S : Scr F) : FVec F S32x128x128 .f32 :=
  k0_pay10 (window S.p (k0_off3 i) S32x128x128.size (k0_off3_inb i h)) (window S.qt (k0_off3 i) S32x128x128.size (k0_off3_inb i h))
    (window S.xi1 (k0_off4 i) S32x128.size (k0_off4_inb i h)) S.xj1 X.x9

/-- The same as a matrix of 4096 rows. -/
def pairsFlatB (i : grid0.Coords) (h : k0_cond3 i = 1#1) (X : Ins F) (S : Scr F) : FVec F S4096x128 .f32 :=
  k0_pay11 (window S.p (k0_off3 i) S32x128x128.size (k0_off3_inb i h)) (window S.qt (k0_off3 i) S32x128x128.size (k0_off3_inb i h))
    (window S.xi1 (k0_off4 i) S32x128.size (k0_off4_inb i h)) S.xj1 X.x9

/-- The first layer's attention of incoming edges on those rows. -/
def attB (i : grid0.Coords) (h : k0_cond3 i = 1#1) (X : Ins F) (S : Scr F) : FVec F S32x128x1 .f32 :=
  k0_pay12 (window S.p (k0_off3 i) S32x128x128.size (k0_off3_inb i h)) (window S.qt (k0_off3 i) S32x128x128.size (k0_off3_inb i h))
    (window S.xi1 (k0_off4 i) S32x128.size (k0_off4_inb i h)) S.xj1 X.x9 X.x10 X.x11

/-- The features weighted for the attention of outgoing edges. -/
def weightedB (i : grid0.Coords) (h : k0_cond3 i = 1#1) (X : Ins F) (S : Scr F) : FVec F S32x128x128 .f32 :=
  k0_pay13 (window S.p (k0_off3 i) S32x128x128.size (k0_off3_inb i h)) (window S.qt (k0_off3 i) S32x128x128.size (k0_off3_inb i h))
    (window S.xi1 (k0_off4 i) S32x128.size (k0_off4_inb i h)) S.xj1 X.x9 X.x12

/-- Phase two at point `i`; `fst` says whether it is the phase's first point, where the sum over senders starts. -/
def stepB (i : grid0.Coords) (h : k0_cond3 i = 1#1) (fst : Bool) (X : Ins F) (S : Scr F) : Scr F :=
  { S with
    inc1 := put S.inc1 (k0_off4 i) S32x128.size (k0_pay14 (pairsB i h X S) (attB i h X S))
    outg1 := match fst with
      | true => k0_pay16 (pairsB i h X S) (weightedB i h X S) X.x13
      | false => k0_pay17 (pairsB i h X S) (weightedB i h X S) X.x13 S.outg1
    p2 := put S.p2 (k0_off3 i) S32x128x128.size (k0_pay6 (k0_pay20 (pairsFlatB i h X S) X.x14 X.x15 X.x24))
    q2t := put S.q2t (k0_off5 i) S128x32x128.size (k0_pay7 (k0_pay19 (pairsFlatB i h X S) X.x14 X.x15 X.x24)) }

/-- What phase three's first point does before the pairs: the first layer's nodes and their projections. -/
def prepC (X : Ins F) (S : Scr F) : Scr F :=
  { S with
    x1 := k0_pay22 X.x2 X.x16 S.inc1 X.x17 S.outg1 X.x18 X.x19
    xi2 := k0_pay28 (k0_pay23 X.x2 X.x16 S.inc1 X.x17 S.outg1 X.x18 X.x19 X.x20 X.x22)
    xj2 := k0_pay29 (k0_pay21 X.x2 X.x16 S.inc1 X.x17 S.outg1 X.x18 X.x19) X.x21 }

/-- The second layer's features of the 32 rows of pairs at point `i`. -/
def pairsC (i : grid0.Coords) (h : k0_cond6 i = 1#1) (X : Ins F) (S : Scr F) : FVec F S32x128x128 .f32 :=
  k0_pay30 (window S.p2 (k0_off6 i) S32x128x128.size (k0_off6_inb i h)) (window S.q2t (k0_off6 i) S32x128x128.size (k0_off6_inb i h))
    (window S.xi2 (k0_off7 i) S32x128.size (k0_off7_inb i h)) S.xj2 X.x23

/-- The second layer's attention of incoming edges on those rows. -/
def attC (i : grid0.Coords) (h : k0_cond6 i = 1#1) (X : Ins F) (S : Scr F) : FVec F S32x128x1 .f32 :=
  k0_pay31 (window S.p2 (k0_off6 i) S32x128x128.size (k0_off6_inb i h)) (window S.q2t (k0_off6 i) S32x128x128.size (k0_off6_inb i h))
    (window S.xi2 (k0_off7 i) S32x128.size (k0_off7_inb i h)) S.xj2 X.x23 X.x25 X.x26

/-- The number of the block of 32 rows at point `i` of phase three, as the kernel's word. -/
abbrev blockC (i : grid0.Coords) : BitVec 32 := Scalar.subi (BitVec.ofNat 32 (i 0).val) 8#32

/-- Phase three at point `i`, after `prepC` at its first point; `fst` as in `stepB`. -/
def stepC (i : grid0.Coords) (h : k0_cond6 i = 1#1) (fst : Bool) (X : Ins F) (S : Scr F) : Scr F :=
  { S with
    inc2 := put S.inc2 (k0_off7 i) S32x128.size (k0_pay32 (pairsC i h X S) (attC i h X S))
    outg2 := match fst with
      | true => k0_pay34 (pairsC i h X S) X.x27 X.x28
      | false => k0_pay36 (pairsC i h X S) X.x27 X.x28 S.outg2
    row0 := match fst with
      | true => k0_pay35 (pairsC i h X S)
      | false => S.row0
    anti := put S.anti (k0_off7 i) S32x128.size (k0_pay8 (k0_pay37 (blockC i) (pairsC i h X S))) }

/-- The readout: what the last point stores into the output, from the scratch arrays after it. -/
def readout (X : Ins F) (S : Scr F) : Vec F S1x16 .f32 :=
  k0_pay9 (k0_pay26 (k0_pay25 S.row0 X.x33 X.x34) S.anti X.x33 (constant S128x128 .f32 0x00000000#32) X.x34)
    (k0_pay27 (k0_pay24 S.x1 X.x29 S.inc2 X.x30 S.outg2 X.x31 X.x32) (k0_pay25 S.row0 X.x33 X.x34) X.x35 X.x36 X.x37) X.x38 X.x39

/-! ## The conditions inside the phases -/

/-- The point is the first of phase one. -/
abbrev condA (i : grid0.Coords) : Prop :=
  Scalar.cmpi .ne (Scalar.extui (Scalar.cmpi .eq (BitVec.ofNat 32 (i 0).val) 0#32) : BitVec 32) 0#32 = 1#1
/-- The point is the first of phase two, -/
abbrev condB (i : grid0.Coords) : Prop :=
  Scalar.cmpi .ne (Scalar.extui (Scalar.cmpi .eq (Scalar.subi (BitVec.ofNat 32 (i 0).val) 4#32) 0#32) : BitVec 32) 0#32 = 1#1
/-- or a later one. -/
abbrev condB' (i : grid0.Coords) : Prop :=
  Scalar.cmpi .ne (Scalar.extui (Scalar.cmpi .sgt (Scalar.subi (BitVec.ofNat 32 (i 0).val) 4#32) 0#32) : BitVec 32) 0#32 = 1#1
/-- The point is the first of phase three, -/
abbrev condC (i : grid0.Coords) : Prop :=
  Scalar.cmpi .ne (Scalar.extui (Scalar.cmpi .eq (blockC i) 0#32) : BitVec 32) 0#32 = 1#1
/-- or a later one. -/
abbrev condC' (i : grid0.Coords) : Prop :=
  Scalar.cmpi .ne (Scalar.extui (Scalar.cmpi .sgt (blockC i) 0#32) : BitVec 32) 0#32 = 1#1

/-! ## Reading a store back and a load as a window -/

variable {κ : Kind} {sp : Space} {s : Shape} {e : EltTy}

/-- One unmasked store over any contents leaves them with the payload put there. -/
theorem read_put (v : View sig κ sp s e) (f : v.ty.Contents (Elt F)) {off size : Fin s.rank → ℕ}
    (inb : ∀ a, off a + size a ≤ s.size a) (w : (Rect.unit off size inb).shape.Idx → Elt F e) :
    v.read (Elt F) (v.writes (Elt F) f [⟨Rect.unit off size inb, w⟩]) = put (v.read (Elt F) f) off size w := by
  rw [View.read_writes_cons_put v f inb w [] rfl, View.writes_nil]

/-- A load is a window of the contents. -/
theorem load_window (v : View sig κ sp s e) (f : v.ty.Contents (Elt F)) {off size : Fin s.rank → ℕ}
    (inb : ∀ a, off a + size a ≤ s.size a) :
    v.readAt (Elt F) (Rect.unit off size inb).toLoadRect f = window (v.read (Elt F) f) off size inb :=
  View.readAt_unit v f inb rfl inb

/-- A load of what one store left is a window of its payload put over some contents. -/
theorem load_stored (v : View sig κ sp s e) {off off' size size' : Fin s.rank → ℕ}
    (inb : ∀ a, off a + size a ≤ s.size a) (inb' : ∀ a, off' a + size' a ≤ s.size a)
    (w : (Rect.unit off' size' inb').shape.Idx → Elt F e) :
    v.readCov (Val := Elt F) [⟨Rect.unit off' size' inb', w⟩] (Rect.unit off size inb).toLoadRect
      = window (put (v.read (Elt F) v.junk) off' size' w) off size inb := by
  unfold View.readCov
  rw [load_window, read_put]

variable {α : Type}

/-- The window of a matrix's own sizes is the matrix. -/
theorem window_all2 {m n : ℕ} (x : (⟨2, ![m, n]⟩ : Shape).Idx → α) (inb) :
    window (s := ⟨2, ![m, n]⟩) x ![0, 0] ![m, n] inb = x :=
  funext fun y => congrArg x (Rect.emb_unit_full (s := ⟨2, ![m, n]⟩) (off := ![0, 0]) inb y)

/-- The window of a rank-3 array's own sizes is the array. -/
theorem window_all3 {l m n : ℕ} (x : (⟨3, ![l, m, n]⟩ : Shape).Idx → α) (inb) :
    window (s := ⟨3, ![l, m, n]⟩) x ![0, 0, 0] ![l, m, n] inb = x :=
  funext fun y => congrArg x (Rect.emb_unit_full (s := ⟨3, ![l, m, n]⟩) (off := ![0, 0, 0]) inb y)

/-- A payload of a matrix's own sizes replaces the matrix. -/
theorem put_all2 {m n : ℕ} (x w : (⟨2, ![m, n]⟩ : Shape).Idx → α) :
    put (s := ⟨2, ![m, n]⟩) x ![0, 0] ![m, n] w = w := by
  have h : ∀ a : Fin 2, (![0, 0] : Fin 2 → ℕ) a + (![m, n] : Fin 2 → ℕ) a ≤ (⟨2, ![m, n]⟩ : Shape).size a := fun a => by
    fin_cases a <;> simp
  have := VecWindow.window_put_same (s := ⟨2, ![m, n]⟩) x ![0, 0] ![m, n] h w
  rwa [window_all2] at this

/-! ## The offsets in closed form, each in its phase -/

theorem off3_eq : ∀ i : grid0.Coords, k0_cond3 i = 1#1 → k0_off3 i = ![32 * ((i 0).val - 4), 0, 0] := by decide +kernel
theorem off4_eq : ∀ i : grid0.Coords, k0_cond3 i = 1#1 → k0_off4 i = ![32 * ((i 0).val - 4), 0] := by decide +kernel
theorem off5_eq : ∀ i : grid0.Coords, k0_cond3 i = 1#1 → k0_off5 i = ![0, 32 * ((i 0).val - 4), 0] := by decide +kernel
theorem off6_eq : ∀ i : grid0.Coords, k0_cond6 i = 1#1 → k0_off6 i = ![32 * ((i 0).val - 8), 0, 0] := by decide +kernel
theorem off7_eq : ∀ i : grid0.Coords, k0_cond6 i = 1#1 → k0_off7 i = ![32 * ((i 0).val - 8), 0] := by decide +kernel

/-- The last, as the executor looks it up. -/
instance closedOff7 (i : grid0.Coords) [h : Fact (k0_cond6 i = 1#1)] : ClosedOff (k0_off7 i) :=
  ⟨![32 * ((i 0).val - 8), 0], off7_eq i h.out⟩

end Cert.KernelIdeal.Fused
-- ==== Proof.Shared.Blocks.lean ====
module

public import Idealize.ShloMosaic.Lib.VecWindow
public import Idealize.ShloMosaic.Lib.ValueIdxCore

@[expose] public section

noncomputable section

/-! # Arrays made of four blocks of 32 rows or 32 columns

The kernel fills its scratch arrays of 128 rows 32 rows at a time, two of them 32 columns at a time. Here are the array
glued from its blocks, the block of an array, and what it means that an array agrees with another on its first `n`
blocks; storing block `n` makes them agree on one block more. -/

namespace Cert.Fused

open Idealize.ShloMosaic Idealize.ShloMosaic.ValueIdx
open VecWindow (window put)

variable {α : Type}

/-- A 128 × 128 × 128 array, -/
abbrev Cube (α : Type) := (⟨3, ![128, 128, 128]⟩ : Shape).Idx → α
/-- 32 rows of one, -/
abbrev Slab (α : Type) := (⟨3, ![32, 128, 128]⟩ : Shape).Idx → α
/-- 32 columns of one, -/
abbrev Side (α : Type) := (⟨3, ![128, 32, 128]⟩ : Shape).Idx → α
/-- a 128 × 128 matrix -/
abbrev Sq (α : Type) := (⟨2, ![128, 128]⟩ : Shape).Idx → α
/-- and 32 rows of one. -/
abbrev Strip (α : Type) := (⟨2, ![32, 128]⟩ : Shape).Idx → α

/-- Block `k` of 32 rows of a cube … -/
def rows3 (x : Cube α) (k : ℕ) : Slab α := fun y => x (ix3 ⟨(32 * k + (y 0).val) % 128, Nat.mod_lt _ (by omega)⟩ (y 1) (y 2))
/-- … and of a matrix. -/
def rows2 (x : Sq α) (k : ℕ) : Strip α := fun y => x (ix2 ⟨(32 * k + (y 0).val) % 128, Nat.mod_lt _ (by omega)⟩ (y 1))

/-- The cube whose blocks of rows are `w 0` to `w 3`, -/
def glueRows3 (w : ℕ → Slab α) : Cube α := fun y => w ((y 0).val / 32) (ix3 ⟨(y 0).val % 32, Nat.mod_lt _ (by omega)⟩ (y 1) (y 2))
/-- the cube whose blocks of columns are `w 0` to `w 3` -/
def glueCols3 (w : ℕ → Side α) : Cube α := fun y => w ((y 1).val / 32) (ix3 (y 0) ⟨(y 1).val % 32, Nat.mod_lt _ (by omega)⟩ (y 2))
/-- and the matrix whose blocks of rows are `w 0` to `w 3`. -/
def glueRows2 (w : ℕ → Strip α) : Sq α := fun y => w ((y 0).val / 32) (ix2 ⟨(y 0).val % 32, Nat.mod_lt _ (by omega)⟩ (y 1))

/-- Two cubes agree on their first `n` blocks of rows, -/
def AgreeRows3 (n : ℕ) (x z : Cube α) : Prop := ∀ y, (y 0).val < 32 * n → x y = z y
/-- of columns; -/
def AgreeCols3 (n : ℕ) (x z : Cube α) : Prop := ∀ y, (y 1).val < 32 * n → x y = z y
/-- and so two matrices. -/
def AgreeRows2 (n : ℕ) (x z : Sq α) : Prop := ∀ y, (y 0).val < 32 * n → x y = z y

/-- Agreement on all blocks is equality. -/
theorem AgreeRows3.eq {n : ℕ} {x z : Cube α} (h : AgreeRows3 n x z) (hn : 4 ≤ n) : x = z :=
  funext fun y => h y (by have : (y 0).val < 128 := (y 0).isLt; omega)
theorem AgreeCols3.eq {n : ℕ} {x z : Cube α} (h : AgreeCols3 n x z) (hn : 4 ≤ n) : x = z :=
  funext fun y => h y (by have : (y 1).val < 128 := (y 1).isLt; omega)
theorem AgreeRows2.eq {n : ℕ} {x z : Sq α} (h : AgreeRows2 n x z) (hn : 4 ≤ n) : x = z :=
  funext fun y => h y (by have : (y 0).val < 128 := (y 0).isLt; omega)

/-- Equal cubes agree on any number of blocks. -/
theorem AgreeRows3.of_eq {n : ℕ} {x z : Cube α} (h : x = z) : AgreeRows3 n x z := fun y _ => congrFun h y
theorem AgreeCols3.of_eq {n : ℕ} {x z : Cube α} (h : x = z) : AgreeCols3 n x z := fun y _ => congrFun h y
theorem AgreeRows2.of_eq {n : ℕ} {x z : Sq α} (h : x = z) : AgreeRows2 n x z := fun y _ => congrFun h y

/-- Any two arrays agree on no block. -/
theorem AgreeRows3.zero {n : ℕ} (x z : Cube α) (h : n = 0) : AgreeRows3 n x z := fun y hy => by subst h; omega
theorem AgreeCols3.zero {n : ℕ} (x z : Cube α) (h : n = 0) : AgreeCols3 n x z := fun y hy => by subst h; omega
theorem AgreeRows2.zero {n : ℕ} (x z : Sq α) (h : n = 0) : AgreeRows2 n x z := fun y hy => by subst h; omega

/-- Storing block `n` of the rows of `glueRows3 w` where the first `n` are in place puts one more in place. -/
theorem AgreeRows3.put {n n' : ℕ} {x : Cube α} {w : ℕ → Slab α} (h : AgreeRows3 n x (glueRows3 w)) (hn : n' = n + 1)
    {off : Fin 3 → ℕ} (ho : off = ![32 * n, 0, 0]) {b : Slab α} (hb : b = w n) :
    AgreeRows3 n' (VecWindow.put (s := ⟨3, ![128, 128, 128]⟩) x off ![32, 128, 128] b) (glueRows3 w) := fun y hy => by
  subst ho hb hn
  have h1 : (y 1).val < 128 := (y 1).isLt
  have h2 : (y 2).val < 128 := (y 2).isLt
  unfold VecWindow.put
  by_cases hk : 32 * n ≤ (y 0).val
  · have hd : (y 0).val / 32 = n := by omega
    have hall : ∀ a : Fin 3, (![32 * n, 0, 0] : Fin 3 → ℕ) a ≤ (y a).val ∧ (y a).val < (![32 * n, 0, 0] : Fin 3 → ℕ) a + (![32, 128, 128] : Fin 3 → ℕ) a := by
      intro a; fin_cases a
      · exact ⟨hk, by show (y 0).val < 32 * n + 32; omega⟩
      · exact ⟨Nat.zero_le _, by show (y 1).val < 0 + 128; omega⟩
      · exact ⟨Nat.zero_le _, by show (y 2).val < 0 + 128; omega⟩
    rw [dif_pos hall]
    unfold glueRows3
    rw [hd]
    congr 1
    funext a; fin_cases a
    · exact Fin.ext (by show (y 0).val - 32 * n = (y 0).val % 32; omega)
    · exact Fin.ext (by show (y 1).val - 0 = (y 1).val; omega)
    · exact Fin.ext (by show (y 2).val - 0 = (y 2).val; omega)
  · rw [dif_neg fun hall => hk (hall 0).1]
    exact h y (by omega)

/-- The same of columns. -/
theorem AgreeCols3.put {n n' : ℕ} {x : Cube α} {w : ℕ → Side α} (h : AgreeCols3 n x (glueCols3 w)) (hn : n' = n + 1)
    {off : Fin 3 → ℕ} (ho : off = ![0, 32 * n, 0]) {b : Side α} (hb : b = w n) :
    AgreeCols3 n' (VecWindow.put (s := ⟨3, ![128, 128, 128]⟩) x off ![128, 32, 128] b) (glueCols3 w) := fun y hy => by
  subst ho hb hn
  have h0 : (y 0).val < 128 := (y 0).isLt
  have h2 : (y 2).val < 128 := (y 2).isLt
  unfold VecWindow.put
  by_cases hk : 32 * n ≤ (y 1).val
  · have hd : (y 1).val / 32 = n := by omega
    have hall : ∀ a : Fin 3, (![0, 32 * n, 0] : Fin 3 → ℕ) a ≤ (y a).val ∧ (y a).val < (![0, 32 * n, 0] : Fin 3 → ℕ) a + (![128, 32, 128] : Fin 3 → ℕ) a := by
      intro a; fin_cases a
      · exact ⟨Nat.zero_le _, by show (y 0).val < 0 + 128; omega⟩
      · exact ⟨hk, by show (y 1).val < 32 * n + 32; omega⟩
      · exact ⟨Nat.zero_le _, by show (y 2).val < 0 + 128; omega⟩
    rw [dif_pos hall]
    unfold glueCols3
    rw [hd]
    congr 1
    funext a; fin_cases a
    · exact Fin.ext (by show (y 0).val - 0 = (y 0).val; omega)
    · exact Fin.ext (by show (y 1).val - 32 * n = (y 1).val % 32; omega)
    · exact Fin.ext (by show (y 2).val - 0 = (y 2).val; omega)
  · rw [dif_neg fun hall => hk (hall 1).1]
    exact h y (by omega)

/-- The same of a matrix. -/
theorem AgreeRows2.put {n n' : ℕ} {x : Sq α} {w : ℕ → Strip α} (h : AgreeRows2 n x (glueRows2 w)) (hn : n' = n + 1)
    {off : Fin 2 → ℕ} (ho : off = ![32 * n, 0]) {b : Strip α} (hb : b = w n) :
    AgreeRows2 n' (VecWindow.put (s := ⟨2, ![128, 128]⟩) x off ![32, 128] b) (glueRows2 w) := fun y hy => by
  subst ho hb hn
  have h1 : (y 1).val < 128 := (y 1).isLt
  unfold VecWindow.put
  by_cases hk : 32 * n ≤ (y 0).val
  · have hd : (y 0).val / 32 = n := by omega
    have hall : ∀ a : Fin 2, (![32 * n, 0] : Fin 2 → ℕ) a ≤ (y a).val ∧ (y a).val < (![32 * n, 0] : Fin 2 → ℕ) a + (![32, 128] : Fin 2 → ℕ) a := by
      intro a; fin_cases a
      · exact ⟨hk, by show (y 0).val < 32 * n + 32; omega⟩
      · exact ⟨Nat.zero_le _, by show (y 1).val < 0 + 128; omega⟩
    rw [dif_pos hall]
    unfold glueRows2
    rw [hd]
    congr 1
    funext a; fin_cases a
    · exact Fin.ext (by show (y 0).val - 32 * n = (y 0).val % 32; omega)
    · exact Fin.ext (by show (y 1).val - 0 = (y 1).val; omega)
  · rw [dif_neg fun hall => hk (hall 0).1]
    exact h y (by omega)

/-- The window of 32 rows at row `32 k` is block `k`, -/
theorem window_rows3 (x : Cube α) {off : Fin 3 → ℕ} {k : ℕ} (hk : k < 4) (ho : off = ![32 * k, 0, 0]) (inb) :
    (window (s := ⟨3, ![128, 128, 128]⟩) x off ![32, 128, 128] inb : Slab α) = rows3 x k := by
  subst ho
  funext y
  have h0 : (y 0).val < 32 := (y 0).isLt
  unfold window rows3
  congr 1
  funext a; fin_cases a
  · exact Fin.ext (by show 32 * k + 1 * (y 0).val = (32 * k + (y 0).val) % 128; omega)
  · exact Fin.ext (by show 0 + 1 * (y 1).val = (y 1).val; omega)
  · exact Fin.ext (by show 0 + 1 * (y 2).val = (y 2).val; omega)

/-- and so of a matrix. -/
theorem window_rows2 (x : Sq α) {off : Fin 2 → ℕ} {k : ℕ} (hk : k < 4) (ho : off = ![32 * k, 0]) (inb) :
    (window (s := ⟨2, ![128, 128]⟩) x off ![32, 128] inb : Strip α) = rows2 x k := by
  subst ho
  funext y
  have h0 : (y 0).val < 32 := (y 0).isLt
  unfold window rows2
  congr 1
  funext a; fin_cases a
  · exact Fin.ext (by show 32 * k + 1 * (y 0).val = (32 * k + (y 0).val) % 128; omega)
  · exact Fin.ext (by show 0 + 1 * (y 1).val = (y 1).val; omega)

end Cert.Fused
-- ==== Proof.KernelIdeal.Contents.lean ====
module

public import proofs.«01_k».proof.Proof.KernelIdeal.Steps
public import proofs.«01_k».proof.Proof.Shared.Blocks

@[expose] public section

set_option maxRecDepth 16384

noncomputable section

/-! # What the scratch arrays hold before each grid point

With the input blocks of the twelve points given, every scratch array is a fixed array whose blocks are stored one by one.
The closed forms, what is in place before point `n`, and that every point keeps it. -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Fused

/-! ## The contents in closed form -/

variable (X : ℕ → Ins F)

/-- The senders' projection of the edges, pair by pair, -/
def P : Vec F S128x128x128 .f32 := glueRows3 fun k => k0_pay2 (X k).x1 (X k).x3 (X k).x4 (X k).x5
/-- the receivers', with the pair reversed, -/
def QT : Vec F S128x128x128 .f32 := glueCols3 fun k => k0_pay3 (X k).x1 (X k).x3 (X k).x4 (X k).x5
/-- and the nodes' two projections. -/
def XI1 : Vec F S128x128 .f32 := k0_pay4 (X 0).x2 (X 0).x6 (X 0).x8
def XJ1 : Vec F S128x128 .f32 := k0_pay5 (X 0).x2 (X 0).x7

/-- The first layer's features on block `k` of the pairs, -/
def T1 (k : ℕ) : FVec F S32x128x128 .f32 := k0_pay10 (rows3 (P X) k) (rows3 (QT X) k) (rows2 (XI1 X) k) (XJ1 X) (X (k + 4)).x9
/-- as a matrix, -/
def T1m (k : ℕ) : FVec F S4096x128 .f32 := k0_pay11 (rows3 (P X) k) (rows3 (QT X) k) (rows2 (XI1 X) k) (XJ1 X) (X (k + 4)).x9
/-- their attention, -/
def A1 (k : ℕ) : FVec F S32x128x1 .f32 :=
  k0_pay12 (rows3 (P X) k) (rows3 (QT X) k) (rows2 (XI1 X) k) (XJ1 X) (X (k + 4)).x9 (X (k + 4)).x10 (X (k + 4)).x11
/-- and the features weighted for the other attention. -/
def W1 (k : ℕ) : FVec F S32x128x128 .f32 :=
  k0_pay13 (rows3 (P X) k) (rows3 (QT X) k) (rows2 (XI1 X) k) (XJ1 X) (X (k + 4)).x9 (X (k + 4)).x12

/-- The sums over receivers, -/
def INC1 : Vec F S128x128 .f32 := glueRows2 fun k => k0_pay14 (T1 X k) (A1 X k)
/-- the sums over senders after blocks 0 to `k`, -/
def OUTG1 : ℕ → Vec F S128x128 .f32
  | 0 => k0_pay16 (T1 X 0) (W1 X 0) (X 4).x13
  | k + 1 => k0_pay17 (T1 X (k + 1)) (W1 X (k + 1)) (X (k + 5)).x13 (OUTG1 k)
/-- and the second layer's projections of the new edges. -/
def P2 : Vec F S128x128x128 .f32 := glueRows3 fun k => k0_pay6 (k0_pay20 (T1m X k) (X (k + 4)).x14 (X (k + 4)).x15 (X (k + 4)).x24)
def Q2T : Vec F S128x128x128 .f32 := glueCols3 fun k => k0_pay7 (k0_pay19 (T1m X k) (X (k + 4)).x14 (X (k + 4)).x15 (X (k + 4)).x24)

/-- The nodes after the first layer and their projections for the second. -/
def X1 : Vec F S128x128 .f32 := k0_pay22 (X 8).x2 (X 8).x16 (INC1 X) (X 8).x17 (OUTG1 X 3) (X 8).x18 (X 8).x19
def XI2 : Vec F S128x128 .f32 := k0_pay28 (k0_pay23 (X 8).x2 (X 8).x16 (INC1 X) (X 8).x17 (OUTG1 X 3) (X 8).x18 (X 8).x19 (X 8).x20 (X 8).x22)
def XJ2 : Vec F S128x128 .f32 := k0_pay29 (k0_pay21 (X 8).x2 (X 8).x16 (INC1 X) (X 8).x17 (OUTG1 X 3) (X 8).x18 (X 8).x19) (X 8).x21

/-- The second layer's features on block `k` of the pairs, -/
def T2 (k : ℕ) : FVec F S32x128x128 .f32 := k0_pay30 (rows3 (P2 X) k) (rows3 (Q2T X) k) (rows2 (XI2 X) k) (XJ2 X) (X (k + 8)).x23
/-- their attention, -/
def A2 (k : ℕ) : FVec F S32x128x1 .f32 :=
  k0_pay31 (rows3 (P2 X) k) (rows3 (Q2T X) k) (rows2 (XI2 X) k) (XJ2 X) (X (k + 8)).x23 (X (k + 8)).x25 (X (k + 8)).x26
/-- the sums over receivers, -/
def INC2 : Vec F S128x128 .f32 := glueRows2 fun k => k0_pay32 (T2 X k) (A2 X k)
/-- over senders after blocks 0 to `k`, -/
def OUTG2 : ℕ → Vec F S128x128 .f32
  | 0 => k0_pay34 (T2 X 0) (X 8).x27 (X 8).x28
  | k + 1 => k0_pay36 (T2 X (k + 1)) (X (k + 9)).x27 (X (k + 9)).x28 (OUTG2 k)
/-- the features of sender 0, -/
def ROW0 : Vec F S128x128 .f32 := k0_pay35 (T2 X 0)
/-- and those on the antidiagonal. -/
def ANTI : Vec F S128x128 .f32 := glueRows2 fun k => k0_pay8 (k0_pay37 (Scalar.subi (BitVec.ofNat 32 (k + 8)) 8#32) (T2 X k))

/-- All scratch arrays as the grid's end finds them. -/
def final : Scr F where
  p := P X
  qt := QT X
  p2 := P2 X
  q2t := Q2T X
  xi1 := XI1 X
  xj1 := XJ1 X
  inc1 := INC1 X
  outg1 := OUTG1 X 3
  x1 := X1 X
  xi2 := XI2 X
  xj2 := XJ2 X
  inc2 := INC2 X
  outg2 := OUTG2 X 3
  anti := ANTI X
  row0 := ROW0 X

/-- The kernel's result. -/
def result : Vec F S1x16 .f32 := readout (X 11) (final X)

/-! ## What holds before point `n` -/

/-- The scratch arrays before point `n`: of each array the blocks stored so far are in place. -/
structure Inv (n : ℕ) (S : Scr F) : Prop where
  p : AgreeRows3 n S.p (P X)
  qt : AgreeCols3 n S.qt (QT X)
  xi1 : 1 ≤ n → S.xi1 = XI1 X
  xj1 : 1 ≤ n → S.xj1 = XJ1 X
  inc1 : AgreeRows2 (n - 4) S.inc1 (INC1 X)
  outg1 : 5 ≤ n → S.outg1 = OUTG1 X (min (n - 5) 3)
  p2 : AgreeRows3 (n - 4) S.p2 (P2 X)
  q2t : AgreeCols3 (n - 4) S.q2t (Q2T X)
  x1 : 9 ≤ n → S.x1 = X1 X
  xi2 : 9 ≤ n → S.xi2 = XI2 X
  xj2 : 9 ≤ n → S.xj2 = XJ2 X
  inc2 : AgreeRows2 (n - 8) S.inc2 (INC2 X)
  outg2 : 9 ≤ n → S.outg2 = OUTG2 X (n - 9)
  row0 : 9 ≤ n → S.row0 = ROW0 X
  anti : AgreeRows2 (n - 8) S.anti (ANTI X)

/-- Nothing is asked before the first point. -/
theorem Inv.start (S : Scr F) : Inv X 0 S where
  p := .zero _ _ rfl
  qt := .zero _ _ rfl
  xi1 h := by omega
  xj1 h := by omega
  inc1 := .zero _ _ rfl
  outg1 h := by omega
  p2 := .zero _ _ rfl
  q2t := .zero _ _ rfl
  x1 h := by omega
  xi2 h := by omega
  xj2 h := by omega
  inc2 := .zero _ _ rfl
  outg2 h := by omega
  row0 h := by omega
  anti := .zero _ _ rfl

variable {X}

/-- After the last point every array is whole. -/
theorem Inv.done {S : Scr F} (h : Inv X 12 S) : S = final X := by
  ext1
  · exact h.p.eq (by omega)
  · exact h.qt.eq (by omega)
  · exact h.p2.eq (by omega)
  · exact h.q2t.eq (by omega)
  · exact h.xi1 (by omega)
  · exact h.xj1 (by omega)
  · exact h.inc1.eq (by omega)
  · exact h.outg1 (by omega)
  · exact h.x1 (by omega)
  · exact h.xi2 (by omega)
  · exact h.xj2 (by omega)
  · exact h.inc2.eq (by omega)
  · exact h.outg2 (by omega)
  · exact h.anti.eq (by omega)
  · exact h.row0 (by omega)

/-! ## Each kind of point keeps it -/

variable {i : grid0.Coords} {n : ℕ} {S : Scr F}

/-- A later point of the first phase. -/
theorem Inv.stepA (h : Inv X n S) (hi : (i 0).val = n) (h0 : 1 ≤ n) (hn : n < 4) : Inv X (n + 1) (stepA i (X n) S) where
  p := h.p.put rfl ((k0_off1_eq i).trans (by rw [hi])) rfl
  qt := h.qt.put rfl ((k0_off2_eq i).trans (by rw [hi])) rfl
  xi1 _ := h.xi1 h0
  xj1 _ := h.xj1 h0
  inc1 := .zero _ _ (by omega)
  outg1 h := by omega
  p2 := .zero _ _ (by omega)
  q2t := .zero _ _ (by omega)
  x1 h := by omega
  xi2 h := by omega
  xj2 h := by omega
  inc2 := .zero _ _ (by omega)
  outg2 h := by omega
  row0 h := by omega
  anti := .zero _ _ (by omega)

/-- The first point. -/
theorem Inv.stepA0 (h : Inv X 0 S) (hi : (i 0).val = 0) : Inv X 1 (stepA0 i (X 0) S) where
  p := h.p.put rfl ((k0_off1_eq i).trans (by rw [hi])) rfl
  qt := h.qt.put rfl ((k0_off2_eq i).trans (by rw [hi])) rfl
  xi1 _ := rfl
  xj1 _ := rfl
  inc1 := .zero _ _ (by omega)
  outg1 h := by omega
  p2 := .zero _ _ (by omega)
  q2t := .zero _ _ (by omega)
  x1 h := by omega
  xi2 h := by omega
  xj2 h := by omega
  inc2 := .zero _ _ (by omega)
  outg2 h := by omega
  row0 h := by omega
  anti := .zero _ _ (by omega)

section
variable (h : Inv X n S) (hi : (i 0).val = n) (h4 : 4 ≤ n) (h8 : n < 8) (h3 : k0_cond3 i = 1#1)
include h hi h4 h8

/-- In the second phase the pairs' features are those of the block. -/
theorem Inv.pairsB : pairsB i h3 (X n) S = T1 X (n - 4) := by
  unfold Fused.pairsB T1
  rw [window_rows3 S.p (k := n - 4) (by omega) ((off3_eq i h3).trans (by rw [hi])),
    window_rows3 S.qt (k := n - 4) (by omega) ((off3_eq i h3).trans (by rw [hi])),
    window_rows2 S.xi1 (k := n - 4) (by omega) ((off4_eq i h3).trans (by rw [hi])),
    h.p.eq h4, h.qt.eq h4, h.xi1 (by omega), h.xj1 (by omega), Nat.sub_add_cancel h4]

theorem Inv.pairsFlatB : pairsFlatB i h3 (X n) S = T1m X (n - 4) := by
  unfold Fused.pairsFlatB T1m
  rw [window_rows3 S.p (k := n - 4) (by omega) ((off3_eq i h3).trans (by rw [hi])),
    window_rows3 S.qt (k := n - 4) (by omega) ((off3_eq i h3).trans (by rw [hi])),
    window_rows2 S.xi1 (k := n - 4) (by omega) ((off4_eq i h3).trans (by rw [hi])),
    h.p.eq h4, h.qt.eq h4, h.xi1 (by omega), h.xj1 (by omega), Nat.sub_add_cancel h4]

theorem Inv.attB : attB i h3 (X n) S = A1 X (n - 4) := by
  unfold Fused.attB A1
  rw [window_rows3 S.p (k := n - 4) (by omega) ((off3_eq i h3).trans (by rw [hi])),
    window_rows3 S.qt (k := n - 4) (by omega) ((off3_eq i h3).trans (by rw [hi])),
    window_rows2 S.xi1 (k := n - 4) (by omega) ((off4_eq i h3).trans (by rw [hi])),
    h.p.eq h4, h.qt.eq h4, h.xi1 (by omega), h.xj1 (by omega), Nat.sub_add_cancel h4]

theorem Inv.weightedB : weightedB i h3 (X n) S = W1 X (n - 4) := by
  unfold Fused.weightedB W1
  rw [window_rows3 S.p (k := n - 4) (by omega) ((off3_eq i h3).trans (by rw [hi])),
    window_rows3 S.qt (k := n - 4) (by omega) ((off3_eq i h3).trans (by rw [hi])),
    window_rows2 S.xi1 (k := n - 4) (by omega) ((off4_eq i h3).trans (by rw [hi])),
    h.p.eq h4, h.qt.eq h4, h.xi1 (by omega), h.xj1 (by omega), Nat.sub_add_cancel h4]

/-- A point of the second phase, the first (`fst`) or a later one. -/
theorem Inv.stepB (fst : Bool) (hf : fst = true ↔ n = 4) : Inv X (n + 1) (stepB i h3 fst (X n) S) where
  p := .of_eq (h.p.eq h4)
  qt := .of_eq (h.qt.eq h4)
  xi1 _ := h.xi1 (by omega)
  xj1 _ := h.xj1 (by omega)
  inc1 := h.inc1.put (by omega) ((off4_eq i h3).trans (by rw [hi])) (by rw [h.pairsB hi h4 h8 h3, h.attB hi h4 h8 h3])
  outg1 _ := by
    unfold Fused.stepB
    rw [h.pairsB hi h4 h8 h3, h.weightedB hi h4 h8 h3]
    cases fst with
    | true =>
      have hn : n = 4 := hf.mp rfl
      subst hn; rfl
    | false =>
      have hn : n ≠ 4 := fun e => Bool.noConfusion (hf.mpr e)
      obtain ⟨k, rfl⟩ : ∃ k, n = k + 5 := ⟨n - 5, by omega⟩
      have e1 : k + 5 - 4 = k + 1 := by omega
      have e2 : min (k + 5 + 1 - 5) 3 = k + 1 := by omega
      have e3 : min (k + 5 - 5) 3 = k := by omega
      rw [h.outg1 (by omega), e1, e2, e3]
      rfl
  p2 := h.p2.put (by omega) ((off3_eq i h3).trans (by rw [hi])) (by rw [h.pairsFlatB hi h4 h8 h3]; rw [Nat.sub_add_cancel h4])
  q2t := h.q2t.put (by omega) ((off5_eq i h3).trans (by rw [hi])) (by rw [h.pairsFlatB hi h4 h8 h3]; rw [Nat.sub_add_cancel h4])
  x1 h := by omega
  xi2 h := by omega
  xj2 h := by omega
  inc2 := .zero _ _ (by omega)
  outg2 h := by omega
  row0 h := by omega
  anti := .zero _ _ (by omega)

end

/-- What holds in the third phase once the first layer is closed. -/
structure InvC (X : ℕ → Ins F) (n : ℕ) (S : Scr F) : Prop extends Inv X n S where
  x1' : S.x1 = X1 X
  xi2' : S.xi2 = XI2 X
  xj2' : S.xj2 = XJ2 X

/-- It holds after the preparation at the phase's first point … -/
theorem Inv.prepC (h : Inv X 8 S) : InvC X 8 (prepC (X 8) S) where
  p := h.p
  qt := h.qt
  xi1 := h.xi1
  xj1 := h.xj1
  inc1 := h.inc1
  outg1 := h.outg1
  p2 := h.p2
  q2t := h.q2t
  x1 h := by omega
  xi2 h := by omega
  xj2 h := by omega
  inc2 := .zero _ _ rfl
  outg2 h := by omega
  row0 h := by omega
  anti := .zero _ _ rfl
  x1' := by unfold Fused.prepC X1; rw [h.inc1.eq (by omega), h.outg1 (by omega)]; rfl
  xi2' := by unfold Fused.prepC XI2; rw [h.inc1.eq (by omega), h.outg1 (by omega)]; rfl
  xj2' := by unfold Fused.prepC XJ2; rw [h.inc1.eq (by omega), h.outg1 (by omega)]; rfl

/-- … and at every later one. -/
theorem Inv.inC (h : Inv X n S) (h9 : 9 ≤ n) : InvC X n S where
  toInv := h
  x1' := h.x1 h9
  xi2' := h.xi2 h9
  xj2' := h.xj2 h9

section
variable (h : InvC X n S) (hi : (i 0).val = n) (h8 : 8 ≤ n) (h12 : n < 12) (h6 : k0_cond6 i = 1#1)
include h hi h8 h12

theorem InvC.pairsC : pairsC i h6 (X n) S = T2 X (n - 8) := by
  unfold Fused.pairsC T2
  rw [window_rows3 S.p2 (k := n - 8) (by omega) ((off6_eq i h6).trans (by rw [hi])),
    window_rows3 S.q2t (k := n - 8) (by omega) ((off6_eq i h6).trans (by rw [hi])),
    window_rows2 S.xi2 (k := n - 8) (by omega) ((off7_eq i h6).trans (by rw [hi])),
    h.p2.eq (by omega), h.q2t.eq (by omega), h.xi2', h.xj2', Nat.sub_add_cancel h8]

theorem InvC.attC : attC i h6 (X n) S = A2 X (n - 8) := by
  unfold Fused.attC A2
  rw [window_rows3 S.p2 (k := n - 8) (by omega) ((off6_eq i h6).trans (by rw [hi])),
    window_rows3 S.q2t (k := n - 8) (by omega) ((off6_eq i h6).trans (by rw [hi])),
    window_rows2 S.xi2 (k := n - 8) (by omega) ((off7_eq i h6).trans (by rw [hi])),
    h.p2.eq (by omega), h.q2t.eq (by omega), h.xi2', h.xj2', Nat.sub_add_cancel h8]

/-- A point of the third phase, the first (`fst`) or a later one. -/
theorem InvC.stepC (fst : Bool) (hf : fst = true ↔ n = 8) : Inv X (n + 1) (stepC i h6 fst (X n) S) where
  p := .of_eq (h.p.eq (by omega))
  qt := .of_eq (h.qt.eq (by omega))
  xi1 _ := h.xi1 (by omega)
  xj1 _ := h.xj1 (by omega)
  inc1 := .of_eq (h.inc1.eq (by omega))
  outg1 _ := (h.outg1 (by omega)).trans (by rw [show min (n - 5) 3 = 3 by omega, show min (n + 1 - 5) 3 = 3 by omega])
  p2 := .of_eq (h.p2.eq (by omega))
  q2t := .of_eq (h.q2t.eq (by omega))
  x1 _ := h.x1'
  xi2 _ := h.xi2'
  xj2 _ := h.xj2'
  inc2 := h.inc2.put (by omega) ((off7_eq i h6).trans (by rw [hi])) (by rw [h.pairsC hi h8 h12 h6, h.attC hi h8 h12 h6])
  outg2 _ := by
    unfold Fused.stepC
    rw [h.pairsC hi h8 h12 h6]
    cases fst with
    | true =>
      have hn : n = 8 := hf.mp rfl
      subst hn; rfl
    | false =>
      have hn : n ≠ 8 := fun e => Bool.noConfusion (hf.mpr e)
      obtain ⟨k, rfl⟩ : ∃ k, n = k + 9 := ⟨n - 9, by omega⟩
      have e1 : k + 9 - 8 = k + 1 := by omega
      have e2 : k + 9 + 1 - 9 = k + 1 := by omega
      have e3 : k + 9 - 9 = k := by omega
      rw [h.outg2 (by omega), e1, e2, e3]
      rfl
  row0 _ := by
    unfold Fused.stepC
    rw [h.pairsC hi h8 h12 h6]
    cases fst with
    | true =>
      have hn : n = 8 := hf.mp rfl
      subst hn; rfl
    | false =>
      have hn : n ≠ 8 := fun e => Bool.noConfusion (hf.mpr e)
      exact h.row0 (by omega)
  anti := h.anti.put (by omega) ((off7_eq i h6).trans (by rw [hi]))
    (by rw [h.pairsC hi h8 h12 h6]; unfold blockC; rw [hi, Nat.sub_add_cancel h8])

end

end Cert.KernelIdeal.Fused
-- ==== Proof.KernelIdeal.Data.lean ====
module

public import proofs.«01_k».proof.Proof.KernelIdeal.Contents
public import proofs.«01_k».proof.Proof.Gen.KernelIdeal.Frame

@[expose] public section

set_option maxRecDepth 16384

noncomputable section

/-! # The pipeline's proof data

What each window's buffer holds at each point, and what the region holds between points. -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Fused
open Idealize.ShloMosaic.Pipeline (Dat Cfg Window BodyObligation)

variable (m : (ℓ : Loc nD τ sig) → Buf (Elt F) ℓ) (ρ : Dev nD → PrngReg)

/-- The buffers the body is called with at point `t`: each window's current staging buffer and the scratch arrays. -/
def bufsAt (t : Fin cfg0.N) : Bufs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a18 := win0_17.stage (cfg0.slots t 17)
  h18 := hstage0_17 ((cfg0.slots t 17).cast nbuf0_17)
  a19 := win0_18.stage (cfg0.slots t 18)
  h19 := hstage0_18 ((cfg0.slots t 18).cast nbuf0_18)
  a20 := win0_19.stage (cfg0.slots t 19)
  h20 := hstage0_19 ((cfg0.slots t 19).cast nbuf0_19)
  a21 := win0_20.stage (cfg0.slots t 20)
  h21 := hstage0_20 ((cfg0.slots t 20).cast nbuf0_20)
  a22 := win0_21.stage (cfg0.slots t 21)
  h22 := hstage0_21 ((cfg0.slots t 21).cast nbuf0_21)
  a23 := win0_22.stage (cfg0.slots t 22)
  h23 := hstage0_22 ((cfg0.slots t 22).cast nbuf0_22)
  a24 := win0_23.stage (cfg0.slots t 23)
  h24 := hstage0_23 ((cfg0.slots t 23).cast nbuf0_23)
  a25 := win0_24.stage (cfg0.slots t 24)
  h25 := hstage0_24 ((cfg0.slots t 24).cast nbuf0_24)
  a26 := win0_25.stage (cfg0.slots t 25)
  h26 := hstage0_25 ((cfg0.slots t 25).cast nbuf0_25)
  a27 := win0_26.stage (cfg0.slots t 26)
  h27 := hstage0_26 ((cfg0.slots t 26).cast nbuf0_26)
  a28 := win0_27.stage (cfg0.slots t 27)
  h28 := hstage0_27 ((cfg0.slots t 27).cast nbuf0_27)
  a29 := win0_28.stage (cfg0.slots t 28)
  h29 := hstage0_28 ((cfg0.slots t 28).cast nbuf0_28)
  a30 := win0_29.stage (cfg0.slots t 29)
  h30 := hstage0_29 ((cfg0.slots t 29).cast nbuf0_29)
  a31 := win0_30.stage (cfg0.slots t 30)
  h31 := hstage0_30 ((cfg0.slots t 30).cast nbuf0_30)
  a32 := win0_31.stage (cfg0.slots t 31)
  h32 := hstage0_31 ((cfg0.slots t 31).cast nbuf0_31)
  a33 := win0_32.stage (cfg0.slots t 32)
  h33 := hstage0_32 ((cfg0.slots t 32).cast nbuf0_32)
  a34 := win0_33.stage (cfg0.slots t 33)
  h34 := hstage0_33 ((cfg0.slots t 33).cast nbuf0_33)
  a35 := win0_34.stage (cfg0.slots t 34)
  h35 := hstage0_34 ((cfg0.slots t 34).cast nbuf0_34)
  a36 := win0_35.stage (cfg0.slots t 35)
  h36 := hstage0_35 ((cfg0.slots t 35).cast nbuf0_35)
  a37 := win0_36.stage (cfg0.slots t 36)
  h37 := hstage0_36 ((cfg0.slots t 36).cast nbuf0_36)
  a38 := win0_37.stage (cfg0.slots t 37)
  h38 := hstage0_37 ((cfg0.slots t 37).cast nbuf0_37)
  a39 := win0_38.stage (cfg0.slots t 38)
  h39 := hstage0_38 ((cfg0.slots t 38).cast nbuf0_38)
  a40 := win0_39.stage (cfg0.slots t 39)
  h40 := hstage0_39 ((cfg0.slots t 39).cast nbuf0_39)
  a41 := Memref.whole cc0_scratch0
  h41 := Memref.isWhole_whole _
  a42 := Memref.whole cc0_scratch1
  h42 := Memref.isWhole_whole _
  a43 := Memref.whole cc0_scratch2
  h43 := Memref.isWhole_whole _
  a44 := Memref.whole cc0_scratch3
  h44 := Memref.isWhole_whole _
  a45 := Memref.whole cc0_scratch4
  h45 := Memref.isWhole_whole _
  a46 := Memref.whole cc0_scratch5
  h46 := Memref.isWhole_whole _
  a47 := Memref.whole cc0_scratch6
  h47 := Memref.isWhole_whole _
  a48 := Memref.whole cc0_scratch7
  h48 := Memref.isWhole_whole _
  a49 := Memref.whole cc0_scratch8
  h49 := Memref.isWhole_whole _
  a50 := Memref.whole cc0_scratch9
  h50 := Memref.isWhole_whole _
  a51 := Memref.whole cc0_scratch10
  h51 := Memref.isWhole_whole _
  a52 := Memref.whole cc0_scratch11
  h52 := Memref.isWhole_whole _
  a53 := Memref.whole cc0_scratch12
  h53 := Memref.isWhole_whole _
  a54 := Memref.whole cc0_scratch13
  h54 := Memref.isWhole_whole _
  a55 := Memref.whole cc0_scratch14
  h55 := Memref.isWhole_whole _

/-- The input blocks at point `t`. -/
def insAt (c : Dev nD) (t : Fin cfg0.N) : Ins F where
  x1 := iblk m c 0 t
  x2 := iblk m c 1 t
  x3 := iblk m c 2 t
  x4 := iblk m c 3 t
  x5 := iblk m c 4 t
  x6 := iblk m c 5 t
  x7 := iblk m c 6 t
  x8 := iblk m c 7 t
  x9 := iblk m c 8 t
  x10 := iblk m c 9 t
  x11 := iblk m c 10 t
  x12 := iblk m c 11 t
  x13 := iblk m c 12 t
  x14 := iblk m c 13 t
  x15 := iblk m c 14 t
  x16 := iblk m c 15 t
  x17 := iblk m c 16 t
  x18 := iblk m c 17 t
  x19 := iblk m c 18 t
  x20 := iblk m c 19 t
  x21 := iblk m c 20 t
  x22 := iblk m c 21 t
  x23 := iblk m c 22 t
  x24 := iblk m c 23 t
  x25 := iblk m c 24 t
  x26 := iblk m c 25 t
  x27 := iblk m c 26 t
  x28 := iblk m c 27 t
  x29 := iblk m c 28 t
  x30 := iblk m c 29 t
  x31 := iblk m c 30 t
  x32 := iblk m c 31 t
  x33 := iblk m c 32 t
  x34 := iblk m c 33 t
  x35 := iblk m c 34 t
  x36 := iblk m c 35 t
  x37 := iblk m c 36 t
  x38 := iblk m c 37 t
  x39 := iblk m c 38 t

/-- The input blocks of the points in order. -/
def insSeq (c : Dev nD) (n : ℕ) : Ins F :=
  if h : n < cfg0.N then insAt m c ⟨n, h⟩ else insAt m c ⟨0, by rw [show cfg0.N = 12 from N_0]; omega⟩

theorem insSeq_val (c : Dev nD) (t : Fin cfg0.N) : insSeq m c t.val = insAt m c t := dif_pos t.isLt

/-- What the region holds before point `n`: the scratch arrays as far as they are filled, and the generator register. -/
def Phi (c : Dev nD) (n : ℕ) : sProp 𝕄 :=
  iprop((∃ S : Scr F, ⌜Inv (insSeq m c) n S⌝ ∗ (bufsAt ⟨0, by rw [show cfg0.N = 12 from N_0]; omega⟩).scrOwn c S) ∗ (∃ r, prngReg c r))

/-- The proof data: every input window keeps its block, the output holds `result`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => result (insSeq m c)
    | ⟨_ + 40, h⟩ => absurd h (Nat.not_lt.mpr (Nat.le_add_left 40 _))
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = iblk m c 26 t := by dsimp only [dats]
theorem after_27 (c : Dev nD) (t : Fin cfg0.N) : (dats m 0 c).after 27 t = iblk m c 27 t := by dsimp only [dats]
theorem after_28 (c : Dev nD) (t : Fin cfg0.N) : (dats m 0 c).after 28 t = iblk m c 28 t := by dsimp only [dats]
theorem after_29 (c : Dev nD) (t : Fin cfg0.N) : (dats m 0 c).after 29 t = iblk m c 29 t := by dsimp only [dats]
theorem after_30 (c : Dev nD) (t : Fin cfg0.N) : (dats m 0 c).after 30 t = iblk m c 30 t := by dsimp only [dats]
theorem after_31 (c : Dev nD) (t : Fin cfg0.N) : (dats m 0 c).after 31 t = iblk m c 31 t := by dsimp only [dats]
theorem after_32 (c : Dev nD) (t : Fin cfg0.N) : (dats m 0 c).after 32 t = iblk m c 32 t := by dsimp only [dats]
theorem after_33 (c : Dev nD) (t : Fin cfg0.N) : (dats m 0 c).after 33 t = iblk m c 33 t := by dsimp only [dats]
theorem after_34 (c : Dev nD) (t : Fin cfg0.N) : (dats m 0 c).after 34 t = iblk m c 34 t := by dsimp only [dats]
theorem after_35 (c : Dev nD) (t : Fin cfg0.N) : (dats m 0 c).after 35 t = iblk m c 35 t := by dsimp only [dats]
theorem after_36 (c : Dev nD) (t : Fin cfg0.N) : (dats m 0 c).after 36 t = iblk m c 36 t := by dsimp only [dats]
theorem after_37 (c : Dev nD) (t : Fin cfg0.N) : (dats m 0 c).after 37 t = iblk m c 37 t := by dsimp only [dats]
theorem after_38 (c : Dev nD) (t : Fin cfg0.N) : (dats m 0 c).after 38 t = iblk m c 38 t := by dsimp only [dats]
theorem after_39 (c : Dev nD) (t : Fin cfg0.N) : (dats m 0 c).after 39 t = result (insSeq m c) := by dsimp only [dats]

/-- Each input window holds its block when the body starts … -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d
theorem before_24 (c : Dev nD) (t : Fin cfg0.N) (d) : (dats m 0 c).before 24 t d = iblk m c 24 t :=
  before0_24_of m (dats m 0 c) (A_eq m c 24) (after_24 m c) t d
theorem before_25 (c : Dev nD) (t : Fin cfg0.N) (d) : (dats m 0 c).before 25 t d = iblk m c 25 t :=
  before0_25_of m (dats m 0 c) (A_eq m c 25) (after_25 m c) t d
theorem before_26 (c : Dev nD) (t : Fin cfg0.N) (d) : (dats m 0 c).before 26 t d = iblk m c 26 t :=
  before0_26_of m (dats m 0 c) (A_eq m c 26) (after_26 m c) t d
theorem before_27 (c : Dev nD) (t : Fin cfg0.N) (d) : (dats m 0 c).before 27 t d = iblk m c 27 t :=
  before0_27_of m (dats m 0 c) (A_eq m c 27) (after_27 m c) t d
theorem before_28 (c : Dev nD) (t : Fin cfg0.N) (d) : (dats m 0 c).before 28 t d = iblk m c 28 t :=
  before0_28_of m (dats m 0 c) (A_eq m c 28) (after_28 m c) t d
theorem before_29 (c : Dev nD) (t : Fin cfg0.N) (d) : (dats m 0 c).before 29 t d = iblk m c 29 t :=
  before0_29_of m (dats m 0 c) (A_eq m c 29) (after_29 m c) t d
theorem before_30 (c : Dev nD) (t : Fin cfg0.N) (d) : (dats m 0 c).before 30 t d = iblk m c 30 t :=
  before0_30_of m (dats m 0 c) (A_eq m c 30) (after_30 m c) t d
theorem before_31 (c : Dev nD) (t : Fin cfg0.N) (d) : (dats m 0 c).before 31 t d = iblk m c 31 t :=
  before0_31_of m (dats m 0 c) (A_eq m c 31) (after_31 m c) t d
theorem before_32 (c : Dev nD) (t : Fin cfg0.N) (d) : (dats m 0 c).before 32 t d = iblk m c 32 t :=
  before0_32_of m (dats m 0 c) (A_eq m c 32) (after_32 m c) t d
theorem before_33 (c : Dev nD) (t : Fin cfg0.N) (d) : (dats m 0 c).before 33 t d = iblk m c 33 t :=
  before0_33_of m (dats m 0 c) (A_eq m c 33) (after_33 m c) t d
theorem before_34 (c : Dev nD) (t : Fin cfg0.N) (d) : (dats m 0 c).before 34 t d = iblk m c 34 t :=
  before0_34_of m (dats m 0 c) (A_eq m c 34) (after_34 m c) t d
theorem before_35 (c : Dev nD) (t : Fin cfg0.N) (d) : (dats m 0 c).before 35 t d = iblk m c 35 t :=
  before0_35_of m (dats m 0 c) (A_eq m c 35) (after_35 m c) t d
theorem before_36 (c : Dev nD) (t : Fin cfg0.N) (d) : (dats m 0 c).before 36 t d = iblk m c 36 t :=
  before0_36_of m (dats m 0 c) (A_eq m c 36) (after_36 m c) t d
theorem before_37 (c : Dev nD) (t : Fin cfg0.N) (d) : (dats m 0 c).before 37 t d = iblk m c 37 t :=
  before0_37_of m (dats m 0 c) (A_eq m c 37) (after_37 m c) t d
theorem before_38 (c : Dev nD) (t : Fin cfg0.N) (d) : (dats m 0 c).before 38 t d = iblk m c 38 t :=
  before0_38_of m (dats m 0 c) (A_eq m c 38) (after_38 m c) t d
/-- … and when it ends. -/
theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (win0_7.stage (cfg0.slots t 7)) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (win0_8.stage (cfg0.slots t 8)) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (win0_9.stage (cfg0.slots t 9)) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (win0_10.stage (cfg0.slots t 10)) fullShare (iblk m c 10 t) := by
  unfold Dat.leavesExact; rw [show cfg0.idle 10 (grid0.coords t) = false from rfl, after_10]
theorem leaves_11 (c : Dev nD) (t : Fin cfg0.N) : (dats m 0 c).leavesExact 11 t = owns (c : Thread nD τ) (win0_11.stage (cfg0.slots t 11)) fullShare (iblk m c 11 t) := by
  unfold Dat.leavesExact; rw [show cfg0.idle 11 (grid0.coords t) = false from rfl, after_11]
theorem leaves_12 (c : Dev nD) (t : Fin cfg0.N) : (dats m 0 c).leavesExact 12 t = owns (c : Thread nD τ) (win0_12.stage (cfg0.slots t 12)) fullShare (iblk m c 12 t) := by
  unfold Dat.leavesExact; rw [show cfg0.idle 12 (grid0.coords t) = false from rfl, after_12]
theorem leaves_13 (c : Dev nD) (t : Fin cfg0.N) : (dats m 0 c).leavesExact 13 t = owns (c : Thread nD τ) (win0_13.stage (cfg0.slots t 13)) fullShare (iblk m c 13 t) := by
  unfold Dat.leavesExact; rw [show cfg0.idle 13 (grid0.coords t) = false from rfl, after_13]
theorem leaves_14 (c : Dev nD) (t : Fin cfg0.N) : (dats m 0 c).leavesExact 14 t = owns (c : Thread nD τ) (win0_14.stage (cfg0.slots t 14)) fullShare (iblk m c 14 t) := by
  unfold Dat.leavesExact; rw [show cfg0.idle 14 (grid0.coords t) = false from rfl, after_14]
theorem leaves_15 (c : Dev nD) (t : Fin cfg0.N) : (dats m 0 c).leavesExact 15 t = owns (c : Thread nD τ) (win0_15.stage (cfg0.slots t 15)) fullShare (iblk m c 15 t) := by
  unfold Dat.leavesExact; rw [show cfg0.idle 15 (grid0.coords t) = false from rfl, after_15]
theorem leaves_16 (c : Dev nD) (t : Fin cfg0.N) : (dats m 0 c).leavesExact 16 t = owns (c : Thread nD τ) (win0_16.stage (cfg0.slots t 16)) fullShare (iblk m c 16 t) := by
  unfold Dat.leavesExact; rw [show cfg0.idle 16 (grid0.coords t) = false from rfl, after_16]
theorem leaves_17 (c : Dev nD) (t : Fin cfg0.N) : (dats m 0 c).leavesExact 17 t = owns (c : Thread nD τ) (win0_17.stage (cfg0.slots t 17)) fullShare (iblk m c 17 t) := by
  unfold Dat.leavesExact; rw [show cfg0.idle 17 (grid0.coords t) = false from rfl, after_17]
theorem leaves_18 (c : Dev nD) (t : Fin cfg0.N) : (dats m 0 c).leavesExact 18 t = owns (c : Thread nD τ) (win0_18.stage (cfg0.slots t 18)) fullShare (iblk m c 18 t) := by
  unfold Dat.leavesExact; rw [show cfg0.idle 18 (grid0.coords t) = false from rfl, after_18]
theorem leaves_19 (c : Dev nD) (t : Fin cfg0.N) : (dats m 0 c).leavesExact 19 t = owns (c : Thread nD τ) (win0_19.stage (cfg0.slots t 19)) fullShare (iblk m c 19 t) := by
  unfold Dat.leavesExact; rw [show cfg0.idle 19 (grid0.coords t) = false from rfl, after_19]
theorem leaves_20 (c : Dev nD) (t : Fin cfg0.N) : (dats m 0 c).leavesExact 20 t = owns (c : Thread nD τ) (win0_20.stage (cfg0.slots t 20)) fullShare (iblk m c 20 t) := by
  unfold Dat.leavesExact; rw [show cfg0.idle 20 (grid0.coords t) = false from rfl, after_20]
theorem leaves_21 (c : Dev nD) (t : Fin cfg0.N) : (dats m 0 c).leavesExact 21 t = owns (c : Thread nD τ) (win0_21.stage (cfg0.slots t 21)) fullShare (iblk m c 21 t) := by
  unfold Dat.leavesExact; rw [show cfg0.idle 21 (grid0.coords t) = false from rfl, after_21]
theorem leaves_22 (c : Dev nD) (t : Fin cfg0.N) : (dats m 0 c).leavesExact 22 t = owns (c : Thread nD τ) (win0_22.stage (cfg0.slots t 22)) fullShare (iblk m c 22 t) := by
  unfold Dat.leavesExact; rw [show cfg0.idle 22 (grid0.coords t) = false from rfl, after_22]
theorem leaves_23 (c : Dev nD) (t : Fin cfg0.N) : (dats m 0 c).leavesExact 23 t = owns (c : Thread nD τ) (win0_23.stage (cfg0.slots t 23)) fullShare (iblk m c 23 t) := by
  unfold Dat.leavesExact; rw [show cfg0.idle 23 (grid0.coords t) = false from rfl, after_23]
theorem leaves_24 (c : Dev nD) (t : Fin cfg0.N) : (dats m 0 c).leavesExact 24 t = owns (c : Thread nD τ) (win0_24.stage (cfg0.slots t 24)) fullShare (iblk m c 24 t) := by
  unfold Dat.leavesExact; rw [show cfg0.idle 24 (grid0.coords t) = false from rfl, after_24]
theorem leaves_25 (c : Dev nD) (t : Fin cfg0.N) : (dats m 0 c).leavesExact 25 t = owns (c : Thread nD τ) (win0_25.stage (cfg0.slots t 25)) fullShare (iblk m c 25 t) := by
  unfold Dat.leavesExact; rw [show cfg0.idle 25 (grid0.coords t) = false from rfl, after_25]
theorem leaves_26 (c : Dev nD) (t : Fin cfg0.N) : (dats m 0 c).leavesExact 26 t = owns (c : Thread nD τ) (win0_26.stage (cfg0.slots t 26)) fullShare (iblk m c 26 t) := by
  unfold Dat.leavesExact; rw [show cfg0.idle 26 (grid0.coords t) = false from rfl, after_26]
theorem leaves_27 (c : Dev nD) (t : Fin cfg0.N) : (dats m 0 c).leavesExact 27 t = owns (c : Thread nD τ) (win0_27.stage (cfg0.slots t 27)) fullShare (iblk m c 27 t) := by
  unfold Dat.leavesExact; rw [show cfg0.idle 27 (grid0.coords t) = false from rfl, after_27]
theorem leaves_28 (c : Dev nD) (t : Fin cfg0.N) : (dats m 0 c).leavesExact 28 t = owns (c : Thread nD τ) (win0_28.stage (cfg0.slots t 28)) fullShare (iblk m c 28 t) := by
  unfold Dat.leavesExact; rw [show cfg0.idle 28 (grid0.coords t) = false from rfl, after_28]
theorem leaves_29 (c : Dev nD) (t : Fin cfg0.N) : (dats m 0 c).leavesExact 29 t = owns (c : Thread nD τ) (win0_29.stage (cfg0.slots t 29)) fullShare (iblk m c 29 t) := by
  unfold Dat.leavesExact; rw [show cfg0.idle 29 (grid0.coords t) = false from rfl, after_29]
theorem leaves_30 (c : Dev nD) (t : Fin cfg0.N) : (dats m 0 c).leavesExact 30 t = owns (c : Thread nD τ) (win0_30.stage (cfg0.slots t 30)) fullShare (iblk m c 30 t) := by
  unfold Dat.leavesExact; rw [show cfg0.idle 30 (grid0.coords t) = false from rfl, after_30]
theorem leaves_31 (c : Dev nD) (t : Fin cfg0.N) : (dats m 0 c).leavesExact 31 t = owns (c : Thread nD τ) (win0_31.stage (cfg0.slots t 31)) fullShare (iblk m c 31 t) := by
  unfold Dat.leavesExact; rw [show cfg0.idle 31 (grid0.coords t) = false from rfl, after_31]
theorem leaves_32 (c : Dev nD) (t : Fin cfg0.N) : (dats m 0 c).leavesExact 32 t = owns (c : Thread nD τ) (win0_32.stage (cfg0.slots t 32)) fullShare (iblk m c 32 t) := by
  unfold Dat.leavesExact; rw [show cfg0.idle 32 (grid0.coords t) = false from rfl, after_32]
theorem leaves_33 (c : Dev nD) (t : Fin cfg0.N) : (dats m 0 c).leavesExact 33 t = owns (c : Thread nD τ) (win0_33.stage (cfg0.slots t 33)) fullShare (iblk m c 33 t) := by
  unfold Dat.leavesExact; rw [show cfg0.idle 33 (grid0.coords t) = false from rfl, after_33]
theorem leaves_34 (c : Dev nD) (t : Fin cfg0.N) : (dats m 0 c).leavesExact 34 t = owns (c : Thread nD τ) (win0_34.stage (cfg0.slots t 34)) fullShare (iblk m c 34 t) := by
  unfold Dat.leavesExact; rw [show cfg0.idle 34 (grid0.coords t) = false from rfl, after_34]
theorem leaves_35 (c : Dev nD) (t : Fin cfg0.N) : (dats m 0 c).leavesExact 35 t = owns (c : Thread nD τ) (win0_35.stage (cfg0.slots t 35)) fullShare (iblk m c 35 t) := by
  unfold Dat.leavesExact; rw [show cfg0.idle 35 (grid0.coords t) = false from rfl, after_35]
theorem leaves_36 (c : Dev nD) (t : Fin cfg0.N) : (dats m 0 c).leavesExact 36 t = owns (c : Thread nD τ) (win0_36.stage (cfg0.slots t 36)) fullShare (iblk m c 36 t) := by
  unfold Dat.leavesExact; rw [show cfg0.idle 36 (grid0.coords t) = false from rfl, after_36]
theorem leaves_37 (c : Dev nD) (t : Fin cfg0.N) : (dats m 0 c).leavesExact 37 t = owns (c : Thread nD τ) (win0_37.stage (cfg0.slots t 37)) fullShare (iblk m c 37 t) := by
  unfold Dat.leavesExact; rw [show cfg0.idle 37 (grid0.coords t) = false from rfl, after_37]
theorem leaves_38 (c : Dev nD) (t : Fin cfg0.N) : (dats m 0 c).leavesExact 38 t = owns (c : Thread nD τ) (win0_38.stage (cfg0.slots t 38)) fullShare (iblk m c 38 t) := by
  unfold Dat.leavesExact; rw [show cfg0.idle 38 (grid0.coords t) = false from rfl, after_38]

end Cert.KernelIdeal.Fused
-- ==== Proof.KernelIdeal.RunA0.lean ====
module

public import proofs.«01_k».proof.Proof.KernelIdeal.Steps

@[expose] public section

set_option maxRecDepth 16384

noncomputable section

/-! # The body's run: The first point of phase one -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 8000000 in
/-- The first point of phase one. -/
theorem run_A0 (A : Bufs) (c : Dev nD) (i : grid0.Coords) (X : Ins F) (S : Scr F) (o : Vec F S1x16 .f32)
    (h1 : k0_cond1 i = 1#1) (h3 : ¬ k0_cond3 i = 1#1) (h6 : ¬ k0_cond6 i = 1#1) (hA : condA i)
    (E : Set ℕ) (K : PUnit → sProp 𝕄) :
    iprop(A.insOwn c X ∗ owns (c : Thread nD τ) A.a40 fullShare o ∗ A.scrOwn c S ∗
      (iprop(A.insOwn c X ∗ owns (c : Thread nD τ) A.a40 fullShare o ∗ A.scrOwn c (stepA0 i X S)) -∗ K ⟨⟩))
    ⊢ wp frame (wpE (defs₀ (F := F)) Variants.none c none) E (A.body i) K := by
  unfold Bufs.insOwn Bufs.scrOwn Bufs.body
  simp only [cc0__fused_kernel_eq_skeleton]; unfold cc0__fused_kernel_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩⟩, ⟨%f40, %hf40, H40⟩, ⟨⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩⟩, Hk⟩
  sl_exec (disch := first | sl_exact h1 | sl_exact h3 | sl_exact h6 | sl_exact hA)
  sl_step
  iapply Hk
  isplitl [H1 H2 H3 H4 H5 H6 H7 H8 H9 H10 H11 H12 H13 H14 H15 H16 H17 H18 H19 H20 H21 H22 H23 H24 H25 H26 H27 H28 H29 H30 H31 H32 H33 H34 H35 H36 H37 H38 H39]
  · isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    isplitl [H7]; · iexists _; isplitr; swap; (· iexact H7); ipureintro; exact hf7
    isplitl [H8]; · iexists _; isplitr; swap; (· iexact H8); ipureintro; exact hf8
    isplitl [H9]; · iexists _; isplitr; swap; (· iexact H9); ipureintro; exact hf9
    isplitl [H10]; · iexists _; isplitr; swap; (· iexact H10); ipureintro; exact hf10
    isplitl [H11]; · iexists _; isplitr; swap; (· iexact H11); ipureintro; exact hf11
    isplitl [H12]; · iexists _; isplitr; swap; (· iexact H12); ipureintro; exact hf12
    isplitl [H13]; · iexists _; isplitr; swap; (· iexact H13); ipureintro; exact hf13
    isplitl [H14]; · iexists _; isplitr; swap; (· iexact H14); ipureintro; exact hf14
    isplitl [H15]; · iexists _; isplitr; swap; (· iexact H15); ipureintro; exact hf15
    isplitl [H16]; · iexists _; isplitr; swap; (· iexact H16); ipureintro; exact hf16
    isplitl [H17]; · iexists _; isplitr; swap; (· iexact H17); ipureintro; exact hf17
    isplitl [H18]; · iexists _; isplitr; swap; (· iexact H18); ipureintro; exact hf18
    isplitl [H19]; · iexists _; isplitr; swap; (· iexact H19); ipureintro; exact hf19
    isplitl [H20]; · iexists _; isplitr; swap; (· iexact H20); ipureintro; exact hf20
    isplitl [H21]; · iexists _; isplitr; swap; (· iexact H21); ipureintro; exact hf21
    isplitl [H22]; · iexists _; isplitr; swap; (· iexact H22); ipureintro; exact hf22
    isplitl [H23]; · iexists _; isplitr; swap; (· iexact H23); ipureintro; exact hf23
    isplitl [H24]; · iexists _; isplitr; swap; (· iexact H24); ipureintro; exact hf24
    isplitl [H25]; · iexists _; isplitr; swap; (· iexact H25); ipureintro; exact hf25
    isplitl [H26]; · iexists _; isplitr; swap; (· iexact H26); ipureintro; exact hf26
    isplitl [H27]; · iexists _; isplitr; swap; (· iexact H27); ipureintro; exact hf27
    isplitl [H28]; · iexists _; isplitr; swap; (· iexact H28); ipureintro; exact hf28
    isplitl [H29]; · iexists _; isplitr; swap; (· iexact H29); ipureintro; exact hf29
    isplitl [H30]; · iexists _; isplitr; swap; (· iexact H30); ipureintro; exact hf30
    isplitl [H31]; · iexists _; isplitr; swap; (· iexact H31); ipureintro; exact hf31
    isplitl [H32]; · iexists _; isplitr; swap; (· iexact H32); ipureintro; exact hf32
    isplitl [H33]; · iexists _; isplitr; swap; (· iexact H33); ipureintro; exact hf33
    isplitl [H34]; · iexists _; isplitr; swap; (· iexact H34); ipureintro; exact hf34
    isplitl [H35]; · iexists _; isplitr; swap; (· iexact H35); ipureintro; exact hf35
    isplitl [H36]; · iexists _; isplitr; swap; (· iexact H36); ipureintro; exact hf36
    isplitl [H37]; · iexists _; isplitr; swap; (· iexact H37); ipureintro; exact hf37
    isplitl [H38]; · iexists _; isplitr; swap; (· iexact H38); ipureintro; exact hf38
    iexists _; isplitr; swap; (· iexact H39); ipureintro; exact hf39
  isplitl [H40]
  · iexists _; isplitr; swap; (· iexact H40); ipureintro; exact hf40
  isplitl [H41]; · iexists _; isplitr; swap; (· iexact H41); ipureintro; (simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H42]; · iexists _; isplitr; swap; (· iexact H42); ipureintro; (simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H43]; · iexists _; isplitr; swap; (· iexact H43); ipureintro; exact hf43
  isplitl [H44]; · iexists _; isplitr; swap; (· iexact H44); ipureintro; exact hf44
  isplitl [H45]; · iexists _; isplitr; swap; (· iexact H45); ipureintro; (simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H46]; · iexists _; isplitr; swap; (· iexact H46); ipureintro; (simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H47]; · iexists _; isplitr; swap; (· iexact H47); ipureintro; exact hf47
  isplitl [H48]; · iexists _; isplitr; swap; (· iexact H48); ipureintro; exact hf48
  isplitl [H49]; · iexists _; isplitr; swap; (· iexact H49); ipureintro; exact hf49
  isplitl [H50]; · iexists _; isplitr; swap; (· iexact H50); ipureintro; exact hf50
  isplitl [H51]; · iexists _; isplitr; swap; (· iexact H51); ipureintro; exact hf51
  isplitl [H52]; · iexists _; isplitr; swap; (· iexact H52); ipureintro; exact hf52
  isplitl [H53]; · iexists _; isplitr; swap; (· iexact H53); ipureintro; exact hf53
  isplitl [H54]; · iexists _; isplitr; swap; (· iexact H54); ipureintro; exact hf54
  iexists _; isplitr; swap; (· iexact H55); ipureintro; exact hf55

end Cert.KernelIdeal.Fused
-- ==== Proof.KernelIdeal.RunA.lean ====
module

public import proofs.«01_k».proof.Proof.KernelIdeal.Steps

@[expose] public section

set_option maxRecDepth 16384

noncomputable section

/-! # The body's run: A later point of phase one -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 8000000 in
/-- A later point of phase one. -/
theorem run_A (A : Bufs) (c : Dev nD) (i : grid0.Coords) (X : Ins F) (S : Scr F) (o : Vec F S1x16 .f32)
    (h1 : k0_cond1 i = 1#1) (h3 : ¬ k0_cond3 i = 1#1) (h6 : ¬ k0_cond6 i = 1#1) (hA : ¬ condA i)
    (E : Set ℕ) (K : PUnit → sProp 𝕄) :
    iprop(A.insOwn c X ∗ owns (c : Thread nD τ) A.a40 fullShare o ∗ A.scrOwn c S ∗
      (iprop(A.insOwn c X ∗ owns (c : Thread nD τ) A.a40 fullShare o ∗ A.scrOwn c (stepA i X S)) -∗ K ⟨⟩))
    ⊢ wp frame (wpE (defs₀ (F := F)) Variants.none c none) E (A.body i) K := by
  unfold Bufs.insOwn Bufs.scrOwn Bufs.body
  simp only [cc0__fused_kernel_eq_skeleton]; unfold cc0__fused_kernel_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩⟩, ⟨%f40, %hf40, H40⟩, ⟨⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩⟩, Hk⟩
  sl_exec (disch := first | sl_exact h1 | sl_exact h3 | sl_exact h6 | sl_exact hA)
  sl_step
  iapply Hk
  isplitl [H1 H2 H3 H4 H5 H6 H7 H8 H9 H10 H11 H12 H13 H14 H15 H16 H17 H18 H19 H20 H21 H22 H23 H24 H25 H26 H27 H28 H29 H30 H31 H32 H33 H34 H35 H36 H37 H38 H39]
  · isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    isplitl [H7]; · iexists _; isplitr; swap; (· iexact H7); ipureintro; exact hf7
    isplitl [H8]; · iexists _; isplitr; swap; (· iexact H8); ipureintro; exact hf8
    isplitl [H9]; · iexists _; isplitr; swap; (· iexact H9); ipureintro; exact hf9
    isplitl [H10]; · iexists _; isplitr; swap; (· iexact H10); ipureintro; exact hf10
    isplitl [H11]; · iexists _; isplitr; swap; (· iexact H11); ipureintro; exact hf11
    isplitl [H12]; · iexists _; isplitr; swap; (· iexact H12); ipureintro; exact hf12
    isplitl [H13]; · iexists _; isplitr; swap; (· iexact H13); ipureintro; exact hf13
    isplitl [H14]; · iexists _; isplitr; swap; (· iexact H14); ipureintro; exact hf14
    isplitl [H15]; · iexists _; isplitr; swap; (· iexact H15); ipureintro; exact hf15
    isplitl [H16]; · iexists _; isplitr; swap; (· iexact H16); ipureintro; exact hf16
    isplitl [H17]; · iexists _; isplitr; swap; (· iexact H17); ipureintro; exact hf17
    isplitl [H18]; · iexists _; isplitr; swap; (· iexact H18); ipureintro; exact hf18
    isplitl [H19]; · iexists _; isplitr; swap; (· iexact H19); ipureintro; exact hf19
    isplitl [H20]; · iexists _; isplitr; swap; (· iexact H20); ipureintro; exact hf20
    isplitl [H21]; · iexists _; isplitr; swap; (· iexact H21); ipureintro; exact hf21
    isplitl [H22]; · iexists _; isplitr; swap; (· iexact H22); ipureintro; exact hf22
    isplitl [H23]; · iexists _; isplitr; swap; (· iexact H23); ipureintro; exact hf23
    isplitl [H24]; · iexists _; isplitr; swap; (· iexact H24); ipureintro; exact hf24
    isplitl [H25]; · iexists _; isplitr; swap; (· iexact H25); ipureintro; exact hf25
    isplitl [H26]; · iexists _; isplitr; swap; (· iexact H26); ipureintro; exact hf26
    isplitl [H27]; · iexists _; isplitr; swap; (· iexact H27); ipureintro; exact hf27
    isplitl [H28]; · iexists _; isplitr; swap; (· iexact H28); ipureintro; exact hf28
    isplitl [H29]; · iexists _; isplitr; swap; (· iexact H29); ipureintro; exact hf29
    isplitl [H30]; · iexists _; isplitr; swap; (· iexact H30); ipureintro; exact hf30
    isplitl [H31]; · iexists _; isplitr; swap; (· iexact H31); ipureintro; exact hf31
    isplitl [H32]; · iexists _; isplitr; swap; (· iexact H32); ipureintro; exact hf32
    isplitl [H33]; · iexists _; isplitr; swap; (· iexact H33); ipureintro; exact hf33
    isplitl [H34]; · iexists _; isplitr; swap; (· iexact H34); ipureintro; exact hf34
    isplitl [H35]; · iexists _; isplitr; swap; (· iexact H35); ipureintro; exact hf35
    isplitl [H36]; · iexists _; isplitr; swap; (· iexact H36); ipureintro; exact hf36
    isplitl [H37]; · iexists _; isplitr; swap; (· iexact H37); ipureintro; exact hf37
    isplitl [H38]; · iexists _; isplitr; swap; (· iexact H38); ipureintro; exact hf38
    iexists _; isplitr; swap; (· iexact H39); ipureintro; exact hf39
  isplitl [H40]
  · iexists _; isplitr; swap; (· iexact H40); ipureintro; exact hf40
  isplitl [H41]; · iexists _; isplitr; swap; (· iexact H41); ipureintro; (simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H42]; · iexists _; isplitr; swap; (· iexact H42); ipureintro; (simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H43]; · iexists _; isplitr; swap; (· iexact H43); ipureintro; exact hf43
  isplitl [H44]; · iexists _; isplitr; swap; (· iexact H44); ipureintro; exact hf44
  isplitl [H45]; · iexists _; isplitr; swap; (· iexact H45); ipureintro; exact hf45
  isplitl [H46]; · iexists _; isplitr; swap; (· iexact H46); ipureintro; exact hf46
  isplitl [H47]; · iexists _; isplitr; swap; (· iexact H47); ipureintro; exact hf47
  isplitl [H48]; · iexists _; isplitr; swap; (· iexact H48); ipureintro; exact hf48
  isplitl [H49]; · iexists _; isplitr; swap; (· iexact H49); ipureintro; exact hf49
  isplitl [H50]; · iexists _; isplitr; swap; (· iexact H50); ipureintro; exact hf50
  isplitl [H51]; · iexists _; isplitr; swap; (· iexact H51); ipureintro; exact hf51
  isplitl [H52]; · iexists _; isplitr; swap; (· iexact H52); ipureintro; exact hf52
  isplitl [H53]; · iexists _; isplitr; swap; (· iexact H53); ipureintro; exact hf53
  isplitl [H54]; · iexists _; isplitr; swap; (· iexact H54); ipureintro; exact hf54
  iexists _; isplitr; swap; (· iexact H55); ipureintro; exact hf55

end Cert.KernelIdeal.Fused
-- ==== Proof.KernelIdeal.RunB0.lean ====
module

public import proofs.«01_k».proof.Proof.KernelIdeal.Steps

@[expose] public section

set_option maxRecDepth 16384

noncomputable section

/-! # The body's run: The first point of phase two -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 8000000 in
/-- The first point of phase two. -/
theorem run_B0 (A : Bufs) (c : Dev nD) (i : grid0.Coords) (X : Ins F) (S : Scr F) (o : Vec F S1x16 .f32)
    (h1 : ¬ k0_cond1 i = 1#1) (h3 : k0_cond3 i = 1#1) (h6 : ¬ k0_cond6 i = 1#1) (hB : condB i) (hB' : ¬ condB' i)
    (E : Set ℕ) (K : PUnit → sProp 𝕄) :
    iprop(A.insOwn c X ∗ owns (c : Thread nD τ) A.a40 fullShare o ∗ A.scrOwn c S ∗
      (iprop(A.insOwn c X ∗ owns (c : Thread nD τ) A.a40 fullShare o ∗ A.scrOwn c (stepB i h3 true X S)) -∗ K ⟨⟩))
    ⊢ wp frame (wpE (defs₀ (F := F)) Variants.none c none) E (A.body i) K := by
  unfold Bufs.insOwn Bufs.scrOwn Bufs.body
  simp only [cc0__fused_kernel_eq_skeleton]; unfold cc0__fused_kernel_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩⟩, ⟨%f40, %hf40, H40⟩, ⟨⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩⟩, Hk⟩
  sl_exec (disch := first | sl_exact h1 | sl_exact h3 | sl_exact h6 | sl_exact hB | sl_exact hB')
  sl_step
  iapply Hk
  isplitl [H1 H2 H3 H4 H5 H6 H7 H8 H9 H10 H11 H12 H13 H14 H15 H16 H17 H18 H19 H20 H21 H22 H23 H24 H25 H26 H27 H28 H29 H30 H31 H32 H33 H34 H35 H36 H37 H38 H39]
  · isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    isplitl [H7]; · iexists _; isplitr; swap; (· iexact H7); ipureintro; exact hf7
    isplitl [H8]; · iexists _; isplitr; swap; (· iexact H8); ipureintro; exact hf8
    isplitl [H9]; · iexists _; isplitr; swap; (· iexact H9); ipureintro; exact hf9
    isplitl [H10]; · iexists _; isplitr; swap; (· iexact H10); ipureintro; exact hf10
    isplitl [H11]; · iexists _; isplitr; swap; (· iexact H11); ipureintro; exact hf11
    isplitl [H12]; · iexists _; isplitr; swap; (· iexact H12); ipureintro; exact hf12
    isplitl [H13]; · iexists _; isplitr; swap; (· iexact H13); ipureintro; exact hf13
    isplitl [H14]; · iexists _; isplitr; swap; (· iexact H14); ipureintro; exact hf14
    isplitl [H15]; · iexists _; isplitr; swap; (· iexact H15); ipureintro; exact hf15
    isplitl [H16]; · iexists _; isplitr; swap; (· iexact H16); ipureintro; exact hf16
    isplitl [H17]; · iexists _; isplitr; swap; (· iexact H17); ipureintro; exact hf17
    isplitl [H18]; · iexists _; isplitr; swap; (· iexact H18); ipureintro; exact hf18
    isplitl [H19]; · iexists _; isplitr; swap; (· iexact H19); ipureintro; exact hf19
    isplitl [H20]; · iexists _; isplitr; swap; (· iexact H20); ipureintro; exact hf20
    isplitl [H21]; · iexists _; isplitr; swap; (· iexact H21); ipureintro; exact hf21
    isplitl [H22]; · iexists _; isplitr; swap; (· iexact H22); ipureintro; exact hf22
    isplitl [H23]; · iexists _; isplitr; swap; (· iexact H23); ipureintro; exact hf23
    isplitl [H24]; · iexists _; isplitr; swap; (· iexact H24); ipureintro; exact hf24
    isplitl [H25]; · iexists _; isplitr; swap; (· iexact H25); ipureintro; exact hf25
    isplitl [H26]; · iexists _; isplitr; swap; (· iexact H26); ipureintro; exact hf26
    isplitl [H27]; · iexists _; isplitr; swap; (· iexact H27); ipureintro; exact hf27
    isplitl [H28]; · iexists _; isplitr; swap; (· iexact H28); ipureintro; exact hf28
    isplitl [H29]; · iexists _; isplitr; swap; (· iexact H29); ipureintro; exact hf29
    isplitl [H30]; · iexists _; isplitr; swap; (· iexact H30); ipureintro; exact hf30
    isplitl [H31]; · iexists _; isplitr; swap; (· iexact H31); ipureintro; exact hf31
    isplitl [H32]; · iexists _; isplitr; swap; (· iexact H32); ipureintro; exact hf32
    isplitl [H33]; · iexists _; isplitr; swap; (· iexact H33); ipureintro; exact hf33
    isplitl [H34]; · iexists _; isplitr; swap; (· iexact H34); ipureintro; exact hf34
    isplitl [H35]; · iexists _; isplitr; swap; (· iexact H35); ipureintro; exact hf35
    isplitl [H36]; · iexists _; isplitr; swap; (· iexact H36); ipureintro; exact hf36
    isplitl [H37]; · iexists _; isplitr; swap; (· iexact H37); ipureintro; exact hf37
    isplitl [H38]; · iexists _; isplitr; swap; (· iexact H38); ipureintro; exact hf38
    iexists _; isplitr; swap; (· iexact H39); ipureintro; exact hf39
  isplitl [H40]
  · iexists _; isplitr; swap; (· iexact H40); ipureintro; exact hf40
  isplitl [H41]; · iexists _; isplitr; swap; (· iexact H41); ipureintro; exact hf41
  isplitl [H42]; · iexists _; isplitr; swap; (· iexact H42); ipureintro; exact hf42
  isplitl [H43]; · iexists _; isplitr; swap; (· iexact H43); ipureintro; ((try delta run_B0.sl.H43_1); (try delta run_B0.sl.H44_1); (try delta run_B0.sl.H47_1); (try delta run_B0.sl.H48_1); (try delta run_B0.sl.r_5); (try delta run_B0.sl.r_4); (try delta run_B0.sl.r_3); (try delta run_B0.sl.r_2); (try delta run_B0.sl.r_1); (try delta run_B0.sl.r); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H44]; · iexists _; isplitr; swap; (· iexact H44); ipureintro; ((try delta run_B0.sl.H43_1); (try delta run_B0.sl.H44_1); (try delta run_B0.sl.H47_1); (try delta run_B0.sl.H48_1); (try delta run_B0.sl.r_5); (try delta run_B0.sl.r_4); (try delta run_B0.sl.r_3); (try delta run_B0.sl.r_2); (try delta run_B0.sl.r_1); (try delta run_B0.sl.r); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H45]; · iexists _; isplitr; swap; (· iexact H45); ipureintro; exact hf45
  isplitl [H46]; · iexists _; isplitr; swap; (· iexact H46); ipureintro; exact hf46
  isplitl [H47]; · iexists _; isplitr; swap; (· iexact H47); ipureintro; ((try delta run_B0.sl.H43_1); (try delta run_B0.sl.H44_1); (try delta run_B0.sl.H47_1); (try delta run_B0.sl.H48_1); (try delta run_B0.sl.r_5); (try delta run_B0.sl.r_4); (try delta run_B0.sl.r_3); (try delta run_B0.sl.r_2); (try delta run_B0.sl.r_1); (try delta run_B0.sl.r); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H48]; · iexists _; isplitr; swap; (· iexact H48); ipureintro; ((try delta run_B0.sl.H43_1); (try delta run_B0.sl.H44_1); (try delta run_B0.sl.H47_1); (try delta run_B0.sl.H48_1); (try delta run_B0.sl.r_5); (try delta run_B0.sl.r_4); (try delta run_B0.sl.r_3); (try delta run_B0.sl.r_2); (try delta run_B0.sl.r_1); (try delta run_B0.sl.r); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H49]; · iexists _; isplitr; swap; (· iexact H49); ipureintro; exact hf49
  isplitl [H50]; · iexists _; isplitr; swap; (· iexact H50); ipureintro; exact hf50
  isplitl [H51]; · iexists _; isplitr; swap; (· iexact H51); ipureintro; exact hf51
  isplitl [H52]; · iexists _; isplitr; swap; (· iexact H52); ipureintro; exact hf52
  isplitl [H53]; · iexists _; isplitr; swap; (· iexact H53); ipureintro; exact hf53
  isplitl [H54]; · iexists _; isplitr; swap; (· iexact H54); ipureintro; exact hf54
  iexists _; isplitr; swap; (· iexact H55); ipureintro; exact hf55

end Cert.KernelIdeal.Fused
-- ==== Proof.KernelIdeal.RunB.lean ====
module

public import proofs.«01_k».proof.Proof.KernelIdeal.Steps

@[expose] public section

set_option maxRecDepth 16384

noncomputable section

/-! # The body's run: A later point of phase two -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 8000000 in
/-- A later point of phase two. -/
theorem run_B (A : Bufs) (c : Dev nD) (i : grid0.Coords) (X : Ins F) (S : Scr F) (o : Vec F S1x16 .f32)
    (h1 : ¬ k0_cond1 i = 1#1) (h3 : k0_cond3 i = 1#1) (h6 : ¬ k0_cond6 i = 1#1) (hB : ¬ condB i) (hB' : condB' i)
    (E : Set ℕ) (K : PUnit → sProp 𝕄) :
    iprop(A.insOwn c X ∗ owns (c : Thread nD τ) A.a40 fullShare o ∗ A.scrOwn c S ∗
      (iprop(A.insOwn c X ∗ owns (c : Thread nD τ) A.a40 fullShare o ∗ A.scrOwn c (stepB i h3 false X S)) -∗ K ⟨⟩))
    ⊢ wp frame (wpE (defs₀ (F := F)) Variants.none c none) E (A.body i) K := by
  unfold Bufs.insOwn Bufs.scrOwn Bufs.body
  simp only [cc0__fused_kernel_eq_skeleton]; unfold cc0__fused_kernel_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩⟩, ⟨%f40, %hf40, H40⟩, ⟨⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩⟩, Hk⟩
  sl_exec (disch := first | sl_exact h1 | sl_exact h3 | sl_exact h6 | sl_exact hB | sl_exact hB')
  sl_step
  iapply Hk
  isplitl [H1 H2 H3 H4 H5 H6 H7 H8 H9 H10 H11 H12 H13 H14 H15 H16 H17 H18 H19 H20 H21 H22 H23 H24 H25 H26 H27 H28 H29 H30 H31 H32 H33 H34 H35 H36 H37 H38 H39]
  · isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    isplitl [H7]; · iexists _; isplitr; swap; (· iexact H7); ipureintro; exact hf7
    isplitl [H8]; · iexists _; isplitr; swap; (· iexact H8); ipureintro; exact hf8
    isplitl [H9]; · iexists _; isplitr; swap; (· iexact H9); ipureintro; exact hf9
    isplitl [H10]; · iexists _; isplitr; swap; (· iexact H10); ipureintro; exact hf10
    isplitl [H11]; · iexists _; isplitr; swap; (· iexact H11); ipureintro; exact hf11
    isplitl [H12]; · iexists _; isplitr; swap; (· iexact H12); ipureintro; exact hf12
    isplitl [H13]; · iexists _; isplitr; swap; (· iexact H13); ipureintro; exact hf13
    isplitl [H14]; · iexists _; isplitr; swap; (· iexact H14); ipureintro; exact hf14
    isplitl [H15]; · iexists _; isplitr; swap; (· iexact H15); ipureintro; exact hf15
    isplitl [H16]; · iexists _; isplitr; swap; (· iexact H16); ipureintro; exact hf16
    isplitl [H17]; · iexists _; isplitr; swap; (· iexact H17); ipureintro; exact hf17
    isplitl [H18]; · iexists _; isplitr; swap; (· iexact H18); ipureintro; exact hf18
    isplitl [H19]; · iexists _; isplitr; swap; (· iexact H19); ipureintro; exact hf19
    isplitl [H20]; · iexists _; isplitr; swap; (· iexact H20); ipureintro; exact hf20
    isplitl [H21]; · iexists _; isplitr; swap; (· iexact H21); ipureintro; exact hf21
    isplitl [H22]; · iexists _; isplitr; swap; (· iexact H22); ipureintro; exact hf22
    isplitl [H23]; · iexists _; isplitr; swap; (· iexact H23); ipureintro; exact hf23
    isplitl [H24]; · iexists _; isplitr; swap; (· iexact H24); ipureintro; exact hf24
    isplitl [H25]; · iexists _; isplitr; swap; (· iexact H25); ipureintro; exact hf25
    isplitl [H26]; · iexists _; isplitr; swap; (· iexact H26); ipureintro; exact hf26
    isplitl [H27]; · iexists _; isplitr; swap; (· iexact H27); ipureintro; exact hf27
    isplitl [H28]; · iexists _; isplitr; swap; (· iexact H28); ipureintro; exact hf28
    isplitl [H29]; · iexists _; isplitr; swap; (· iexact H29); ipureintro; exact hf29
    isplitl [H30]; · iexists _; isplitr; swap; (· iexact H30); ipureintro; exact hf30
    isplitl [H31]; · iexists _; isplitr; swap; (· iexact H31); ipureintro; exact hf31
    isplitl [H32]; · iexists _; isplitr; swap; (· iexact H32); ipureintro; exact hf32
    isplitl [H33]; · iexists _; isplitr; swap; (· iexact H33); ipureintro; exact hf33
    isplitl [H34]; · iexists _; isplitr; swap; (· iexact H34); ipureintro; exact hf34
    isplitl [H35]; · iexists _; isplitr; swap; (· iexact H35); ipureintro; exact hf35
    isplitl [H36]; · iexists _; isplitr; swap; (· iexact H36); ipureintro; exact hf36
    isplitl [H37]; · iexists _; isplitr; swap; (· iexact H37); ipureintro; exact hf37
    isplitl [H38]; · iexists _; isplitr; swap; (· iexact H38); ipureintro; exact hf38
    iexists _; isplitr; swap; (· iexact H39); ipureintro; exact hf39
  isplitl [H40]
  · iexists _; isplitr; swap; (· iexact H40); ipureintro; exact hf40
  isplitl [H41]; · iexists _; isplitr; swap; (· iexact H41); ipureintro; exact hf41
  isplitl [H42]; · iexists _; isplitr; swap; (· iexact H42); ipureintro; exact hf42
  isplitl [H43]; · iexists _; isplitr; swap; (· iexact H43); ipureintro; ((try delta run_B.sl.H43_1); (try delta run_B.sl.H44_1); (try delta run_B.sl.H47_1); (try delta run_B.sl.H48_1); (try delta run_B.sl.r_5); (try delta run_B.sl.r_4); (try delta run_B.sl.r_3); (try delta run_B.sl.r_2); (try delta run_B.sl.r_1); (try delta run_B.sl.r); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H44]; · iexists _; isplitr; swap; (· iexact H44); ipureintro; ((try delta run_B.sl.H43_1); (try delta run_B.sl.H44_1); (try delta run_B.sl.H47_1); (try delta run_B.sl.H48_1); (try delta run_B.sl.r_5); (try delta run_B.sl.r_4); (try delta run_B.sl.r_3); (try delta run_B.sl.r_2); (try delta run_B.sl.r_1); (try delta run_B.sl.r); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H45]; · iexists _; isplitr; swap; (· iexact H45); ipureintro; exact hf45
  isplitl [H46]; · iexists _; isplitr; swap; (· iexact H46); ipureintro; exact hf46
  isplitl [H47]; · iexists _; isplitr; swap; (· iexact H47); ipureintro; ((try delta run_B.sl.H43_1); (try delta run_B.sl.H44_1); (try delta run_B.sl.H47_1); (try delta run_B.sl.H48_1); (try delta run_B.sl.r_5); (try delta run_B.sl.r_4); (try delta run_B.sl.r_3); (try delta run_B.sl.r_2); (try delta run_B.sl.r_1); (try delta run_B.sl.r); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H48]; · iexists _; isplitr; swap; (· iexact H48); ipureintro; ((try delta run_B.sl.H43_1); (try delta run_B.sl.H44_1); (try delta run_B.sl.H47_1); (try delta run_B.sl.H48_1); (try delta run_B.sl.r_5); (try delta run_B.sl.r_4); (try delta run_B.sl.r_3); (try delta run_B.sl.r_2); (try delta run_B.sl.r_1); (try delta run_B.sl.r); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H49]; · iexists _; isplitr; swap; (· iexact H49); ipureintro; exact hf49
  isplitl [H50]; · iexists _; isplitr; swap; (· iexact H50); ipureintro; exact hf50
  isplitl [H51]; · iexists _; isplitr; swap; (· iexact H51); ipureintro; exact hf51
  isplitl [H52]; · iexists _; isplitr; swap; (· iexact H52); ipureintro; exact hf52
  isplitl [H53]; · iexists _; isplitr; swap; (· iexact H53); ipureintro; exact hf53
  isplitl [H54]; · iexists _; isplitr; swap; (· iexact H54); ipureintro; exact hf54
  iexists _; isplitr; swap; (· iexact H55); ipureintro; exact hf55

end Cert.KernelIdeal.Fused
-- ==== Proof.KernelIdeal.RunC0.lean ====
module

public import proofs.«01_k».proof.Proof.KernelIdeal.Steps

@[expose] public section

set_option maxRecDepth 16384

noncomputable section

/-! # The body's run: The first point of phase three -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 8000000 in
/-- The first point of phase three. -/
theorem run_C0 (A : Bufs) (c : Dev nD) (i : grid0.Coords) (X : Ins F) (S : Scr F) (o : Vec F S1x16 .f32)
    (h1 : ¬ k0_cond1 i = 1#1) (h3 : ¬ k0_cond3 i = 1#1) (h6 : k0_cond6 i = 1#1) (hC : condC i) (hC' : ¬ condC' i) (h10 : ¬ k0_cond10 i = 1#1)
    (E : Set ℕ) (K : PUnit → sProp 𝕄) :
    iprop(A.insOwn c X ∗ owns (c : Thread nD τ) A.a40 fullShare o ∗ A.scrOwn c S ∗
      (iprop(A.insOwn c X ∗ owns (c : Thread nD τ) A.a40 fullShare o ∗ A.scrOwn c (stepC i h6 true X (prepC X S))) -∗ K ⟨⟩))
    ⊢ wp frame (wpE (defs₀ (F := F)) Variants.none c none) E (A.body i) K := by
  unfold Bufs.insOwn Bufs.scrOwn Bufs.body
  simp only [cc0__fused_kernel_eq_skeleton]; unfold cc0__fused_kernel_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩⟩, ⟨%f40, %hf40, H40⟩, ⟨⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩⟩, Hk⟩
  haveI := Fact.mk h6
  sl_exec (disch := first | sl_exact h1 | sl_exact h3 | sl_exact h6 | sl_exact hC | sl_exact hC' | sl_exact h10)
  sl_step
  iapply Hk
  isplitl [H1 H2 H3 H4 H5 H6 H7 H8 H9 H10 H11 H12 H13 H14 H15 H16 H17 H18 H19 H20 H21 H22 H23 H24 H25 H26 H27 H28 H29 H30 H31 H32 H33 H34 H35 H36 H37 H38 H39]
  · isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    isplitl [H7]; · iexists _; isplitr; swap; (· iexact H7); ipureintro; exact hf7
    isplitl [H8]; · iexists _; isplitr; swap; (· iexact H8); ipureintro; exact hf8
    isplitl [H9]; · iexists _; isplitr; swap; (· iexact H9); ipureintro; exact hf9
    isplitl [H10]; · iexists _; isplitr; swap; (· iexact H10); ipureintro; exact hf10
    isplitl [H11]; · iexists _; isplitr; swap; (· iexact H11); ipureintro; exact hf11
    isplitl [H12]; · iexists _; isplitr; swap; (· iexact H12); ipureintro; exact hf12
    isplitl [H13]; · iexists _; isplitr; swap; (· iexact H13); ipureintro; exact hf13
    isplitl [H14]; · iexists _; isplitr; swap; (· iexact H14); ipureintro; exact hf14
    isplitl [H15]; · iexists _; isplitr; swap; (· iexact H15); ipureintro; exact hf15
    isplitl [H16]; · iexists _; isplitr; swap; (· iexact H16); ipureintro; exact hf16
    isplitl [H17]; · iexists _; isplitr; swap; (· iexact H17); ipureintro; exact hf17
    isplitl [H18]; · iexists _; isplitr; swap; (· iexact H18); ipureintro; exact hf18
    isplitl [H19]; · iexists _; isplitr; swap; (· iexact H19); ipureintro; exact hf19
    isplitl [H20]; · iexists _; isplitr; swap; (· iexact H20); ipureintro; exact hf20
    isplitl [H21]; · iexists _; isplitr; swap; (· iexact H21); ipureintro; exact hf21
    isplitl [H22]; · iexists _; isplitr; swap; (· iexact H22); ipureintro; exact hf22
    isplitl [H23]; · iexists _; isplitr; swap; (· iexact H23); ipureintro; exact hf23
    isplitl [H24]; · iexists _; isplitr; swap; (· iexact H24); ipureintro; exact hf24
    isplitl [H25]; · iexists _; isplitr; swap; (· iexact H25); ipureintro; exact hf25
    isplitl [H26]; · iexists _; isplitr; swap; (· iexact H26); ipureintro; exact hf26
    isplitl [H27]; · iexists _; isplitr; swap; (· iexact H27); ipureintro; exact hf27
    isplitl [H28]; · iexists _; isplitr; swap; (· iexact H28); ipureintro; exact hf28
    isplitl [H29]; · iexists _; isplitr; swap; (· iexact H29); ipureintro; exact hf29
    isplitl [H30]; · iexists _; isplitr; swap; (· iexact H30); ipureintro; exact hf30
    isplitl [H31]; · iexists _; isplitr; swap; (· iexact H31); ipureintro; exact hf31
    isplitl [H32]; · iexists _; isplitr; swap; (· iexact H32); ipureintro; exact hf32
    isplitl [H33]; · iexists _; isplitr; swap; (· iexact H33); ipureintro; exact hf33
    isplitl [H34]; · iexists _; isplitr; swap; (· iexact H34); ipureintro; exact hf34
    isplitl [H35]; · iexists _; isplitr; swap; (· iexact H35); ipureintro; exact hf35
    isplitl [H36]; · iexists _; isplitr; swap; (· iexact H36); ipureintro; exact hf36
    isplitl [H37]; · iexists _; isplitr; swap; (· iexact H37); ipureintro; exact hf37
    isplitl [H38]; · iexists _; isplitr; swap; (· iexact H38); ipureintro; exact hf38
    iexists _; isplitr; swap; (· iexact H39); ipureintro; exact hf39
  isplitl [H40]
  · iexists _; isplitr; swap; (· iexact H40); ipureintro; exact hf40
  isplitl [H41]; · iexists _; isplitr; swap; (· iexact H41); ipureintro; exact hf41
  isplitl [H42]; · iexists _; isplitr; swap; (· iexact H42); ipureintro; exact hf42
  isplitl [H43]; · iexists _; isplitr; swap; (· iexact H43); ipureintro; exact hf43
  isplitl [H44]; · iexists _; isplitr; swap; (· iexact H44); ipureintro; exact hf44
  isplitl [H45]; · iexists _; isplitr; swap; (· iexact H45); ipureintro; exact hf45
  isplitl [H46]; · iexists _; isplitr; swap; (· iexact H46); ipureintro; exact hf46
  isplitl [H47]; · iexists _; isplitr; swap; (· iexact H47); ipureintro; exact hf47
  isplitl [H48]; · iexists _; isplitr; swap; (· iexact H48); ipureintro; exact hf48
  isplitl [H49]; · iexists _; isplitr; swap; (· iexact H49); ipureintro; ((try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; (try simp only [stepC, pairsC, attC, readout, prepC, off7_eq i h6]); (try with_reducible rfl))
  isplitl [H50]; · iexists _; isplitr; swap; (· iexact H50); ipureintro; ((try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; (try simp only [stepC, pairsC, attC, readout, prepC, off7_eq i h6]); (try with_reducible rfl))
  isplitl [H51]; · iexists _; isplitr; swap; (· iexact H51); ipureintro; ((try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; (try simp only [stepC, pairsC, attC, readout, prepC, off7_eq i h6]); (try with_reducible rfl))
  isplitl [H52]; · iexists _; isplitr; swap; (· iexact H52); ipureintro; ((try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; (try simp only [stepC, pairsC, attC, readout, prepC, off7_eq i h6]); (try with_reducible rfl))
  isplitl [H53]; · iexists _; isplitr; swap; (· iexact H53); ipureintro; ((try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; (try simp only [stepC, pairsC, attC, readout, prepC, off7_eq i h6]); (try with_reducible rfl))
  isplitl [H54]; · iexists _; isplitr; swap; (· iexact H54); ipureintro; ((try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; (try simp only [stepC, pairsC, attC, readout, prepC, off7_eq i h6]); (try with_reducible rfl))
  iexists _; isplitr; swap; (· iexact H55); ipureintro; ((try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.H49_1); (try delta run_C0.sl.H50_1); (try delta run_C0.sl.H51_1); (try delta run_C0.sl.H52_1); (try delta run_C0.sl.H53_1); (try delta run_C0.sl.H54_1); (try delta run_C0.sl.H55_1); (try delta run_C0.sl.r_4); (try delta run_C0.sl.r_3); (try delta run_C0.sl.r_2); (try delta run_C0.sl.r_1); (try delta run_C0.sl.r); (try delta run_C0.sl.v11); (try delta run_C0.sl.v22); (try delta run_C0.sl.v26); (try delta run_C0.sl.v101); (try delta run_C0.sl.v105); (try delta run_C0.sl.v110); (try delta run_C0.sl.v121); (try delta run_C0.sl.v129); (try delta run_C0.sl.cst_67); (try delta run_C0.sl.H49_1); (try delta run_C0.sl.H50_1); (try delta run_C0.sl.H51_1); (try delta run_C0.sl.H52_1); (try delta run_C0.sl.H53_1); (try delta run_C0.sl.H54_1); (try delta run_C0.sl.H55_1); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; (try simp only [stepC, pairsC, attC, readout, prepC, off7_eq i h6]); (try with_reducible rfl))

end Cert.KernelIdeal.Fused
-- ==== Proof.KernelIdeal.RunC.lean ====
module

public import proofs.«01_k».proof.Proof.KernelIdeal.Steps

@[expose] public section

set_option maxRecDepth 16384

noncomputable section

/-! # The body's run: A middle point of phase three -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 8000000 in
/-- A middle point of phase three. -/
theorem run_C (A : Bufs) (c : Dev nD) (i : grid0.Coords) (X : Ins F) (S : Scr F) (o : Vec F S1x16 .f32)
    (h1 : ¬ k0_cond1 i = 1#1) (h3 : ¬ k0_cond3 i = 1#1) (h6 : k0_cond6 i = 1#1) (hC : ¬ condC i) (hC' : condC' i) (h10 : ¬ k0_cond10 i = 1#1)
    (E : Set ℕ) (K : PUnit → sProp 𝕄) :
    iprop(A.insOwn c X ∗ owns (c : Thread nD τ) A.a40 fullShare o ∗ A.scrOwn c S ∗
      (iprop(A.insOwn c X ∗ owns (c : Thread nD τ) A.a40 fullShare o ∗ A.scrOwn c (stepC i h6 false X S)) -∗ K ⟨⟩))
    ⊢ wp frame (wpE (defs₀ (F := F)) Variants.none c none) E (A.body i) K := by
  unfold Bufs.insOwn Bufs.scrOwn Bufs.body
  simp only [cc0__fused_kernel_eq_skeleton]; unfold cc0__fused_kernel_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩⟩, ⟨%f40, %hf40, H40⟩, ⟨⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩⟩, Hk⟩
  sl_exec (disch := first | sl_exact h1 | sl_exact h3 | sl_exact h6 | sl_exact hC | sl_exact hC' | sl_exact h10)
  sl_step
  iapply Hk
  isplitl [H1 H2 H3 H4 H5 H6 H7 H8 H9 H10 H11 H12 H13 H14 H15 H16 H17 H18 H19 H20 H21 H22 H23 H24 H25 H26 H27 H28 H29 H30 H31 H32 H33 H34 H35 H36 H37 H38 H39]
  · isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    isplitl [H7]; · iexists _; isplitr; swap; (· iexact H7); ipureintro; exact hf7
    isplitl [H8]; · iexists _; isplitr; swap; (· iexact H8); ipureintro; exact hf8
    isplitl [H9]; · iexists _; isplitr; swap; (· iexact H9); ipureintro; exact hf9
    isplitl [H10]; · iexists _; isplitr; swap; (· iexact H10); ipureintro; exact hf10
    isplitl [H11]; · iexists _; isplitr; swap; (· iexact H11); ipureintro; exact hf11
    isplitl [H12]; · iexists _; isplitr; swap; (· iexact H12); ipureintro; exact hf12
    isplitl [H13]; · iexists _; isplitr; swap; (· iexact H13); ipureintro; exact hf13
    isplitl [H14]; · iexists _; isplitr; swap; (· iexact H14); ipureintro; exact hf14
    isplitl [H15]; · iexists _; isplitr; swap; (· iexact H15); ipureintro; exact hf15
    isplitl [H16]; · iexists _; isplitr; swap; (· iexact H16); ipureintro; exact hf16
    isplitl [H17]; · iexists _; isplitr; swap; (· iexact H17); ipureintro; exact hf17
    isplitl [H18]; · iexists _; isplitr; swap; (· iexact H18); ipureintro; exact hf18
    isplitl [H19]; · iexists _; isplitr; swap; (· iexact H19); ipureintro; exact hf19
    isplitl [H20]; · iexists _; isplitr; swap; (· iexact H20); ipureintro; exact hf20
    isplitl [H21]; · iexists _; isplitr; swap; (· iexact H21); ipureintro; exact hf21
    isplitl [H22]; · iexists _; isplitr; swap; (· iexact H22); ipureintro; exact hf22
    isplitl [H23]; · iexists _; isplitr; swap; (· iexact H23); ipureintro; exact hf23
    isplitl [H24]; · iexists _; isplitr; swap; (· iexact H24); ipureintro; exact hf24
    isplitl [H25]; · iexists _; isplitr; swap; (· iexact H25); ipureintro; exact hf25
    isplitl [H26]; · iexists _; isplitr; swap; (· iexact H26); ipureintro; exact hf26
    isplitl [H27]; · iexists _; isplitr; swap; (· iexact H27); ipureintro; exact hf27
    isplitl [H28]; · iexists _; isplitr; swap; (· iexact H28); ipureintro; exact hf28
    isplitl [H29]; · iexists _; isplitr; swap; (· iexact H29); ipureintro; exact hf29
    isplitl [H30]; · iexists _; isplitr; swap; (· iexact H30); ipureintro; exact hf30
    isplitl [H31]; · iexists _; isplitr; swap; (· iexact H31); ipureintro; exact hf31
    isplitl [H32]; · iexists _; isplitr; swap; (· iexact H32); ipureintro; exact hf32
    isplitl [H33]; · iexists _; isplitr; swap; (· iexact H33); ipureintro; exact hf33
    isplitl [H34]; · iexists _; isplitr; swap; (· iexact H34); ipureintro; exact hf34
    isplitl [H35]; · iexists _; isplitr; swap; (· iexact H35); ipureintro; exact hf35
    isplitl [H36]; · iexists _; isplitr; swap; (· iexact H36); ipureintro; exact hf36
    isplitl [H37]; · iexists _; isplitr; swap; (· iexact H37); ipureintro; exact hf37
    isplitl [H38]; · iexists _; isplitr; swap; (· iexact H38); ipureintro; exact hf38
    iexists _; isplitr; swap; (· iexact H39); ipureintro; exact hf39
  isplitl [H40]
  · iexists _; isplitr; swap; (· iexact H40); ipureintro; exact hf40
  isplitl [H41]; · iexists _; isplitr; swap; (· iexact H41); ipureintro; exact hf41
  isplitl [H42]; · iexists _; isplitr; swap; (· iexact H42); ipureintro; exact hf42
  isplitl [H43]; · iexists _; isplitr; swap; (· iexact H43); ipureintro; exact hf43
  isplitl [H44]; · iexists _; isplitr; swap; (· iexact H44); ipureintro; exact hf44
  isplitl [H45]; · iexists _; isplitr; swap; (· iexact H45); ipureintro; exact hf45
  isplitl [H46]; · iexists _; isplitr; swap; (· iexact H46); ipureintro; exact hf46
  isplitl [H47]; · iexists _; isplitr; swap; (· iexact H47); ipureintro; exact hf47
  isplitl [H48]; · iexists _; isplitr; swap; (· iexact H48); ipureintro; exact hf48
  isplitl [H49]; · iexists _; isplitr; swap; (· iexact H49); ipureintro; exact hf49
  isplitl [H50]; · iexists _; isplitr; swap; (· iexact H50); ipureintro; exact hf50
  isplitl [H51]; · iexists _; isplitr; swap; (· iexact H51); ipureintro; exact hf51
  isplitl [H52]; · iexists _; isplitr; swap; (· iexact H52); ipureintro; ((try delta run_C.sl.H52_1); (try delta run_C.sl.H53_1); (try delta run_C.sl.H54_1); (try delta run_C.sl.r_2); (try delta run_C.sl.r_1); (try delta run_C.sl.r); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H53]; · iexists _; isplitr; swap; (· iexact H53); ipureintro; ((try delta run_C.sl.H52_1); (try delta run_C.sl.H53_1); (try delta run_C.sl.H54_1); (try delta run_C.sl.r_2); (try delta run_C.sl.r_1); (try delta run_C.sl.r); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  isplitl [H54]; · iexists _; isplitr; swap; (· iexact H54); ipureintro; ((try delta run_C.sl.H52_1); (try delta run_C.sl.H53_1); (try delta run_C.sl.H54_1); (try delta run_C.sl.r_2); (try delta run_C.sl.r_1); (try delta run_C.sl.r); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; rfl)
  iexists _; isplitr; swap; (· iexact H55); ipureintro; exact hf55

end Cert.KernelIdeal.Fused
-- ==== Proof.KernelIdeal.RunC3.lean ====
module

public import proofs.«01_k».proof.Proof.KernelIdeal.Steps

@[expose] public section

set_option maxRecDepth 16384

noncomputable section

/-! # The body's run: The last point of phase three, which stores the output -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 8000000 in
/-- The last point of phase three, which stores the output. -/
theorem run_C3 (A : Bufs) (c : Dev nD) (i : grid0.Coords) (X : Ins F) (S : Scr F) (o : Vec F S1x16 .f32)
    (h1 : ¬ k0_cond1 i = 1#1) (h3 : ¬ k0_cond3 i = 1#1) (h6 : k0_cond6 i = 1#1) (hC : ¬ condC i) (hC' : condC' i) (h10 : k0_cond10 i = 1#1)
    (E : Set ℕ) (K : PUnit → sProp 𝕄) :
    iprop(A.insOwn c X ∗ owns (c : Thread nD τ) A.a40 fullShare o ∗ A.scrOwn c S ∗
      (iprop(A.insOwn c X ∗ owns (c : Thread nD τ) A.a40 fullShare (readout X (stepC i h6 false X S)) ∗ A.scrOwn c (stepC i h6 false X S)) -∗ K ⟨⟩))
    ⊢ wp frame (wpE (defs₀ (F := F)) Variants.none c none) E (A.body i) K := by
  unfold Bufs.insOwn Bufs.scrOwn Bufs.body
  simp only [cc0__fused_kernel_eq_skeleton]; unfold cc0__fused_kernel_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩⟩, ⟨%f40, %hf40, H40⟩, ⟨⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩⟩, Hk⟩
  haveI := Fact.mk h6
  sl_exec (disch := first | sl_exact h1 | sl_exact h3 | sl_exact h6 | sl_exact hC | sl_exact hC' | sl_exact h10)
  sl_step
  iapply Hk
  isplitl [H1 H2 H3 H4 H5 H6 H7 H8 H9 H10 H11 H12 H13 H14 H15 H16 H17 H18 H19 H20 H21 H22 H23 H24 H25 H26 H27 H28 H29 H30 H31 H32 H33 H34 H35 H36 H37 H38 H39]
  · isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    isplitl [H7]; · iexists _; isplitr; swap; (· iexact H7); ipureintro; exact hf7
    isplitl [H8]; · iexists _; isplitr; swap; (· iexact H8); ipureintro; exact hf8
    isplitl [H9]; · iexists _; isplitr; swap; (· iexact H9); ipureintro; exact hf9
    isplitl [H10]; · iexists _; isplitr; swap; (· iexact H10); ipureintro; exact hf10
    isplitl [H11]; · iexists _; isplitr; swap; (· iexact H11); ipureintro; exact hf11
    isplitl [H12]; · iexists _; isplitr; swap; (· iexact H12); ipureintro; exact hf12
    isplitl [H13]; · iexists _; isplitr; swap; (· iexact H13); ipureintro; exact hf13
    isplitl [H14]; · iexists _; isplitr; swap; (· iexact H14); ipureintro; exact hf14
    isplitl [H15]; · iexists _; isplitr; swap; (· iexact H15); ipureintro; exact hf15
    isplitl [H16]; · iexists _; isplitr; swap; (· iexact H16); ipureintro; exact hf16
    isplitl [H17]; · iexists _; isplitr; swap; (· iexact H17); ipureintro; exact hf17
    isplitl [H18]; · iexists _; isplitr; swap; (· iexact H18); ipureintro; exact hf18
    isplitl [H19]; · iexists _; isplitr; swap; (· iexact H19); ipureintro; exact hf19
    isplitl [H20]; · iexists _; isplitr; swap; (· iexact H20); ipureintro; exact hf20
    isplitl [H21]; · iexists _; isplitr; swap; (· iexact H21); ipureintro; exact hf21
    isplitl [H22]; · iexists _; isplitr; swap; (· iexact H22); ipureintro; exact hf22
    isplitl [H23]; · iexists _; isplitr; swap; (· iexact H23); ipureintro; exact hf23
    isplitl [H24]; · iexists _; isplitr; swap; (· iexact H24); ipureintro; exact hf24
    isplitl [H25]; · iexists _; isplitr; swap; (· iexact H25); ipureintro; exact hf25
    isplitl [H26]; · iexists _; isplitr; swap; (· iexact H26); ipureintro; exact hf26
    isplitl [H27]; · iexists _; isplitr; swap; (· iexact H27); ipureintro; exact hf27
    isplitl [H28]; · iexists _; isplitr; swap; (· iexact H28); ipureintro; exact hf28
    isplitl [H29]; · iexists _; isplitr; swap; (· iexact H29); ipureintro; exact hf29
    isplitl [H30]; · iexists _; isplitr; swap; (· iexact H30); ipureintro; exact hf30
    isplitl [H31]; · iexists _; isplitr; swap; (· iexact H31); ipureintro; exact hf31
    isplitl [H32]; · iexists _; isplitr; swap; (· iexact H32); ipureintro; exact hf32
    isplitl [H33]; · iexists _; isplitr; swap; (· iexact H33); ipureintro; exact hf33
    isplitl [H34]; · iexists _; isplitr; swap; (· iexact H34); ipureintro; exact hf34
    isplitl [H35]; · iexists _; isplitr; swap; (· iexact H35); ipureintro; exact hf35
    isplitl [H36]; · iexists _; isplitr; swap; (· iexact H36); ipureintro; exact hf36
    isplitl [H37]; · iexists _; isplitr; swap; (· iexact H37); ipureintro; exact hf37
    isplitl [H38]; · iexists _; isplitr; swap; (· iexact H38); ipureintro; exact hf38
    iexists _; isplitr; swap; (· iexact H39); ipureintro; exact hf39
  isplitl [H40]
  · iexists _; isplitr; swap; (· iexact H40); ipureintro; ((try delta run_C3.sl.H40_1); (try delta run_C3.sl.H52_1); (try delta run_C3.sl.H53_1); (try delta run_C3.sl.H54_1); (try delta run_C3.sl.r_8); (try delta run_C3.sl.r_7); (try delta run_C3.sl.r_6); (try delta run_C3.sl.r_5); (try delta run_C3.sl.r_4); (try delta run_C3.sl.r_3); (try delta run_C3.sl.r_2); (try delta run_C3.sl.r_1); (try delta run_C3.sl.r); (try delta run_C3.sl.v11); (try delta run_C3.sl.v22); (try delta run_C3.sl.v26); (try delta run_C3.sl.v101); (try delta run_C3.sl.v105); (try delta run_C3.sl.v110); (try delta run_C3.sl.v121); (try delta run_C3.sl.v129); (try delta run_C3.sl.cst_67); (try delta run_C3.sl.H49_1); (try delta run_C3.sl.H50_1); (try delta run_C3.sl.H51_1); (try delta run_C3.sl.H52_1); (try delta run_C3.sl.H53_1); (try delta run_C3.sl.H54_1); (try delta run_C3.sl.H55_1); (try delta run_C3.sl.H40_1); (try delta run_C3.sl.H52_1); (try delta run_C3.sl.H53_1); (try delta run_C3.sl.H54_1); (try delta run_C3.sl.r_8); (try delta run_C3.sl.r_7); (try delta run_C3.sl.r_6); (try delta run_C3.sl.r_5); (try delta run_C3.sl.r_4); (try delta run_C3.sl.r_3); (try delta run_C3.sl.r_2); (try delta run_C3.sl.r_1); (try delta run_C3.sl.r); (try delta run_C3.sl.v11); (try delta run_C3.sl.v22); (try delta run_C3.sl.v26); (try delta run_C3.sl.v101); (try delta run_C3.sl.v105); (try delta run_C3.sl.v110); (try delta run_C3.sl.v121); (try delta run_C3.sl.v129); (try delta run_C3.sl.cst_67); (try delta run_C3.sl.H49_1); (try delta run_C3.sl.H50_1); (try delta run_C3.sl.H51_1); (try delta run_C3.sl.H52_1); (try delta run_C3.sl.H53_1); (try delta run_C3.sl.H54_1); (try delta run_C3.sl.H55_1); (try delta run_C3.sl.H40_1); (try delta run_C3.sl.H52_1); (try delta run_C3.sl.H53_1); (try delta run_C3.sl.H54_1); (try delta run_C3.sl.r_8); (try delta run_C3.sl.r_7); (try delta run_C3.sl.r_6); (try delta run_C3.sl.r_5); (try delta run_C3.sl.r_4); (try delta run_C3.sl.r_3); (try delta run_C3.sl.r_2); (try delta run_C3.sl.r_1); (try delta run_C3.sl.r); (try delta run_C3.sl.v11); (try delta run_C3.sl.v22); (try delta run_C3.sl.v26); (try delta run_C3.sl.v101); (try delta run_C3.sl.v105); (try delta run_C3.sl.v110); (try delta run_C3.sl.v121); (try delta run_C3.sl.v129); (try delta run_C3.sl.cst_67); (try delta run_C3.sl.H49_1); (try delta run_C3.sl.H50_1); (try delta run_C3.sl.H51_1); (try delta run_C3.sl.H52_1); (try delta run_C3.sl.H53_1); (try delta run_C3.sl.H54_1); (try delta run_C3.sl.H55_1); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; (try simp only [stepC, pairsC, attC, readout, prepC, off7_eq i h6]); (try with_reducible rfl))
  isplitl [H41]; · iexists _; isplitr; swap; (· iexact H41); ipureintro; exact hf41
  isplitl [H42]; · iexists _; isplitr; swap; (· iexact H42); ipureintro; exact hf42
  isplitl [H43]; · iexists _; isplitr; swap; (· iexact H43); ipureintro; exact hf43
  isplitl [H44]; · iexists _; isplitr; swap; (· iexact H44); ipureintro; exact hf44
  isplitl [H45]; · iexists _; isplitr; swap; (· iexact H45); ipureintro; exact hf45
  isplitl [H46]; · iexists _; isplitr; swap; (· iexact H46); ipureintro; exact hf46
  isplitl [H47]; · iexists _; isplitr; swap; (· iexact H47); ipureintro; exact hf47
  isplitl [H48]; · iexists _; isplitr; swap; (· iexact H48); ipureintro; exact hf48
  isplitl [H49]; · iexists _; isplitr; swap; (· iexact H49); ipureintro; exact hf49
  isplitl [H50]; · iexists _; isplitr; swap; (· iexact H50); ipureintro; exact hf50
  isplitl [H51]; · iexists _; isplitr; swap; (· iexact H51); ipureintro; exact hf51
  isplitl [H52]; · iexists _; isplitr; swap; (· iexact H52); ipureintro; ((try delta run_C3.sl.H40_1); (try delta run_C3.sl.H52_1); (try delta run_C3.sl.H53_1); (try delta run_C3.sl.H54_1); (try delta run_C3.sl.r_8); (try delta run_C3.sl.r_7); (try delta run_C3.sl.r_6); (try delta run_C3.sl.r_5); (try delta run_C3.sl.r_4); (try delta run_C3.sl.r_3); (try delta run_C3.sl.r_2); (try delta run_C3.sl.r_1); (try delta run_C3.sl.r); (try delta run_C3.sl.v11); (try delta run_C3.sl.v22); (try delta run_C3.sl.v26); (try delta run_C3.sl.v101); (try delta run_C3.sl.v105); (try delta run_C3.sl.v110); (try delta run_C3.sl.v121); (try delta run_C3.sl.v129); (try delta run_C3.sl.cst_67); (try delta run_C3.sl.H49_1); (try delta run_C3.sl.H50_1); (try delta run_C3.sl.H51_1); (try delta run_C3.sl.H52_1); (try delta run_C3.sl.H53_1); (try delta run_C3.sl.H54_1); (try delta run_C3.sl.H55_1); (try delta run_C3.sl.H40_1); (try delta run_C3.sl.H52_1); (try delta run_C3.sl.H53_1); (try delta run_C3.sl.H54_1); (try delta run_C3.sl.r_8); (try delta run_C3.sl.r_7); (try delta run_C3.sl.r_6); (try delta run_C3.sl.r_5); (try delta run_C3.sl.r_4); (try delta run_C3.sl.r_3); (try delta run_C3.sl.r_2); (try delta run_C3.sl.r_1); (try delta run_C3.sl.r); (try delta run_C3.sl.v11); (try delta run_C3.sl.v22); (try delta run_C3.sl.v26); (try delta run_C3.sl.v101); (try delta run_C3.sl.v105); (try delta run_C3.sl.v110); (try delta run_C3.sl.v121); (try delta run_C3.sl.v129); (try delta run_C3.sl.cst_67); (try delta run_C3.sl.H49_1); (try delta run_C3.sl.H50_1); (try delta run_C3.sl.H51_1); (try delta run_C3.sl.H52_1); (try delta run_C3.sl.H53_1); (try delta run_C3.sl.H54_1); (try delta run_C3.sl.H55_1); (try delta run_C3.sl.H40_1); (try delta run_C3.sl.H52_1); (try delta run_C3.sl.H53_1); (try delta run_C3.sl.H54_1); (try delta run_C3.sl.r_8); (try delta run_C3.sl.r_7); (try delta run_C3.sl.r_6); (try delta run_C3.sl.r_5); (try delta run_C3.sl.r_4); (try delta run_C3.sl.r_3); (try delta run_C3.sl.r_2); (try delta run_C3.sl.r_1); (try delta run_C3.sl.r); (try delta run_C3.sl.v11); (try delta run_C3.sl.v22); (try delta run_C3.sl.v26); (try delta run_C3.sl.v101); (try delta run_C3.sl.v105); (try delta run_C3.sl.v110); (try delta run_C3.sl.v121); (try delta run_C3.sl.v129); (try delta run_C3.sl.cst_67); (try delta run_C3.sl.H49_1); (try delta run_C3.sl.H50_1); (try delta run_C3.sl.H51_1); (try delta run_C3.sl.H52_1); (try delta run_C3.sl.H53_1); (try delta run_C3.sl.H54_1); (try delta run_C3.sl.H55_1); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; (try simp only [stepC, pairsC, attC, readout, prepC, off7_eq i h6]); (try with_reducible rfl))
  isplitl [H53]; · iexists _; isplitr; swap; (· iexact H53); ipureintro; ((try delta run_C3.sl.H40_1); (try delta run_C3.sl.H52_1); (try delta run_C3.sl.H53_1); (try delta run_C3.sl.H54_1); (try delta run_C3.sl.r_8); (try delta run_C3.sl.r_7); (try delta run_C3.sl.r_6); (try delta run_C3.sl.r_5); (try delta run_C3.sl.r_4); (try delta run_C3.sl.r_3); (try delta run_C3.sl.r_2); (try delta run_C3.sl.r_1); (try delta run_C3.sl.r); (try delta run_C3.sl.v11); (try delta run_C3.sl.v22); (try delta run_C3.sl.v26); (try delta run_C3.sl.v101); (try delta run_C3.sl.v105); (try delta run_C3.sl.v110); (try delta run_C3.sl.v121); (try delta run_C3.sl.v129); (try delta run_C3.sl.cst_67); (try delta run_C3.sl.H49_1); (try delta run_C3.sl.H50_1); (try delta run_C3.sl.H51_1); (try delta run_C3.sl.H52_1); (try delta run_C3.sl.H53_1); (try delta run_C3.sl.H54_1); (try delta run_C3.sl.H55_1); (try delta run_C3.sl.H40_1); (try delta run_C3.sl.H52_1); (try delta run_C3.sl.H53_1); (try delta run_C3.sl.H54_1); (try delta run_C3.sl.r_8); (try delta run_C3.sl.r_7); (try delta run_C3.sl.r_6); (try delta run_C3.sl.r_5); (try delta run_C3.sl.r_4); (try delta run_C3.sl.r_3); (try delta run_C3.sl.r_2); (try delta run_C3.sl.r_1); (try delta run_C3.sl.r); (try delta run_C3.sl.v11); (try delta run_C3.sl.v22); (try delta run_C3.sl.v26); (try delta run_C3.sl.v101); (try delta run_C3.sl.v105); (try delta run_C3.sl.v110); (try delta run_C3.sl.v121); (try delta run_C3.sl.v129); (try delta run_C3.sl.cst_67); (try delta run_C3.sl.H49_1); (try delta run_C3.sl.H50_1); (try delta run_C3.sl.H51_1); (try delta run_C3.sl.H52_1); (try delta run_C3.sl.H53_1); (try delta run_C3.sl.H54_1); (try delta run_C3.sl.H55_1); (try delta run_C3.sl.H40_1); (try delta run_C3.sl.H52_1); (try delta run_C3.sl.H53_1); (try delta run_C3.sl.H54_1); (try delta run_C3.sl.r_8); (try delta run_C3.sl.r_7); (try delta run_C3.sl.r_6); (try delta run_C3.sl.r_5); (try delta run_C3.sl.r_4); (try delta run_C3.sl.r_3); (try delta run_C3.sl.r_2); (try delta run_C3.sl.r_1); (try delta run_C3.sl.r); (try delta run_C3.sl.v11); (try delta run_C3.sl.v22); (try delta run_C3.sl.v26); (try delta run_C3.sl.v101); (try delta run_C3.sl.v105); (try delta run_C3.sl.v110); (try delta run_C3.sl.v121); (try delta run_C3.sl.v129); (try delta run_C3.sl.cst_67); (try delta run_C3.sl.H49_1); (try delta run_C3.sl.H50_1); (try delta run_C3.sl.H51_1); (try delta run_C3.sl.H52_1); (try delta run_C3.sl.H53_1); (try delta run_C3.sl.H54_1); (try delta run_C3.sl.H55_1); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; (try simp only [stepC, pairsC, attC, readout, prepC, off7_eq i h6]); (try with_reducible rfl))
  isplitl [H54]; · iexists _; isplitr; swap; (· iexact H54); ipureintro; ((try delta run_C3.sl.H40_1); (try delta run_C3.sl.H52_1); (try delta run_C3.sl.H53_1); (try delta run_C3.sl.H54_1); (try delta run_C3.sl.r_8); (try delta run_C3.sl.r_7); (try delta run_C3.sl.r_6); (try delta run_C3.sl.r_5); (try delta run_C3.sl.r_4); (try delta run_C3.sl.r_3); (try delta run_C3.sl.r_2); (try delta run_C3.sl.r_1); (try delta run_C3.sl.r); (try delta run_C3.sl.v11); (try delta run_C3.sl.v22); (try delta run_C3.sl.v26); (try delta run_C3.sl.v101); (try delta run_C3.sl.v105); (try delta run_C3.sl.v110); (try delta run_C3.sl.v121); (try delta run_C3.sl.v129); (try delta run_C3.sl.cst_67); (try delta run_C3.sl.H49_1); (try delta run_C3.sl.H50_1); (try delta run_C3.sl.H51_1); (try delta run_C3.sl.H52_1); (try delta run_C3.sl.H53_1); (try delta run_C3.sl.H54_1); (try delta run_C3.sl.H55_1); (try delta run_C3.sl.H40_1); (try delta run_C3.sl.H52_1); (try delta run_C3.sl.H53_1); (try delta run_C3.sl.H54_1); (try delta run_C3.sl.r_8); (try delta run_C3.sl.r_7); (try delta run_C3.sl.r_6); (try delta run_C3.sl.r_5); (try delta run_C3.sl.r_4); (try delta run_C3.sl.r_3); (try delta run_C3.sl.r_2); (try delta run_C3.sl.r_1); (try delta run_C3.sl.r); (try delta run_C3.sl.v11); (try delta run_C3.sl.v22); (try delta run_C3.sl.v26); (try delta run_C3.sl.v101); (try delta run_C3.sl.v105); (try delta run_C3.sl.v110); (try delta run_C3.sl.v121); (try delta run_C3.sl.v129); (try delta run_C3.sl.cst_67); (try delta run_C3.sl.H49_1); (try delta run_C3.sl.H50_1); (try delta run_C3.sl.H51_1); (try delta run_C3.sl.H52_1); (try delta run_C3.sl.H53_1); (try delta run_C3.sl.H54_1); (try delta run_C3.sl.H55_1); (try delta run_C3.sl.H40_1); (try delta run_C3.sl.H52_1); (try delta run_C3.sl.H53_1); (try delta run_C3.sl.H54_1); (try delta run_C3.sl.r_8); (try delta run_C3.sl.r_7); (try delta run_C3.sl.r_6); (try delta run_C3.sl.r_5); (try delta run_C3.sl.r_4); (try delta run_C3.sl.r_3); (try delta run_C3.sl.r_2); (try delta run_C3.sl.r_1); (try delta run_C3.sl.r); (try delta run_C3.sl.v11); (try delta run_C3.sl.v22); (try delta run_C3.sl.v26); (try delta run_C3.sl.v101); (try delta run_C3.sl.v105); (try delta run_C3.sl.v110); (try delta run_C3.sl.v121); (try delta run_C3.sl.v129); (try delta run_C3.sl.cst_67); (try delta run_C3.sl.H49_1); (try delta run_C3.sl.H50_1); (try delta run_C3.sl.H51_1); (try delta run_C3.sl.H52_1); (try delta run_C3.sl.H53_1); (try delta run_C3.sl.H54_1); (try delta run_C3.sl.H55_1); simp only [read_put, load_stored, load_window, window_all2, window_all3, put_all2, hf1, hf2, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf41, hf42, hf43, hf44, hf45, hf46, hf47, hf48, hf49, hf50, hf51, hf52, hf53, hf54, hf55]; (try simp only [stepC, pairsC, attC, readout, prepC, off7_eq i h6]); (try with_reducible rfl))
  iexists _; isplitr; swap; (· iexact H55); ipureintro; exact hf55

end Cert.KernelIdeal.Fused
-- ==== Proof.KernelIdeal.Point.lean ====
module

public import proofs.«01_k».proof.Proof.KernelIdeal.Data
public import proofs.«01_k».proof.Proof.KernelIdeal.RunA0
public import proofs.«01_k».proof.Proof.KernelIdeal.RunA
public import proofs.«01_k».proof.Proof.KernelIdeal.RunB0
public import proofs.«01_k».proof.Proof.KernelIdeal.RunB
public import proofs.«01_k».proof.Proof.KernelIdeal.RunC0
public import proofs.«01_k».proof.Proof.KernelIdeal.RunC
public import proofs.«01_k».proof.Proof.KernelIdeal.RunC3

@[expose] public section

set_option maxRecDepth 16384

noncomputable section

/-! # The body at a generic grid point

The seven runs put together: at every point the body takes the scratch arrays one step further. -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Fused
open Idealize.ShloMosaic.Pipeline (Dat Cfg Window BodyObligation)

variable (m : (ℓ : Loc nD τ sig) → Buf (Elt F) ℓ)

/-! ## Where each point lies -/

theorem coord : ∀ t : Fin grid0.N, (grid0.coords t 0).val = t.val := by decide +kernel
theorem cond1_at : ∀ t : Fin grid0.N, k0_cond1 (grid0.coords t) = 1#1 ↔ t.val < 4 := by decide +kernel
theorem cond3_at : ∀ t : Fin grid0.N, k0_cond3 (grid0.coords t) = 1#1 ↔ (4 ≤ t.val ∧ t.val < 8) := by decide +kernel
theorem cond6_at : ∀ t : Fin grid0.N, k0_cond6 (grid0.coords t) = 1#1 ↔ 8 ≤ t.val := by decide +kernel
theorem condA_at : ∀ t : Fin grid0.N, condA (grid0.coords t) ↔ t.val = 0 := by decide +kernel
theorem condB_at : ∀ t : Fin grid0.N, condB (grid0.coords t) ↔ t.val = 4 := by decide +kernel
theorem condB'_at : ∀ t : Fin grid0.N, condB' (grid0.coords t) ↔ 4 < t.val := by decide +kernel
theorem condC_at : ∀ t : Fin grid0.N, condC (grid0.coords t) ↔ t.val = 8 := by decide +kernel
theorem condC'_at : ∀ t : Fin grid0.N, condC' (grid0.coords t) ↔ 8 < t.val := by decide +kernel
theorem cond10_at : ∀ t : Fin grid0.N, k0_cond10 (grid0.coords t) = 1#1 ↔ t.val = 11 := by decide +kernel

/-! ## The body at a point -/

/-- What the body leaves at point `t`: the inputs as they were, the scratch arrays filled one step further, the output at
the result after the last point and untouched before it. -/
def leftAt (c : Dev nD) (t : Fin cfg0.N) (o : Vec F S1x16 .f32) : sProp 𝕄 :=
  iprop(∃ S : Scr F, ∃ o' : Vec F S1x16 .f32,
    ⌜Inv (insSeq m c) (t.val + 1) S ∧ o' = (if t.val = 11 then result (insSeq m c) else o)⌝
    ∗ (bufsAt t).insOwn c (insAt m c t) ∗ owns (c : Thread nD τ) (bufsAt t).a40 fullShare o' ∗ (bufsAt t).scrOwn c S)

/-- A run that leaves the scratch arrays and the output so, leaves what `leftAt` says. -/
theorem run_left (c : Dev nD) (t : Fin cfg0.N) (S S' : Scr F) (o o' : Vec F S1x16 .f32)
    (hS : Inv (insSeq m c) (t.val + 1) S') (ho : o' = (if t.val = 11 then result (insSeq m c) else o))
    (E : Set ℕ) (K : PUnit → sProp 𝕄)
    (h : ∀ K : PUnit → sProp 𝕄, iprop((bufsAt t).insOwn c (insAt m c t) ∗ owns (c : Thread nD τ) (bufsAt t).a40 fullShare o ∗ (bufsAt t).scrOwn c S
        ∗ (iprop((bufsAt t).insOwn c (insAt m c t) ∗ owns (c : Thread nD τ) (bufsAt t).a40 fullShare o' ∗ (bufsAt t).scrOwn c S') -∗ K ⟨⟩))
      ⊢ wp frame (wpE (defs₀ (F := F)) Variants.none c none) E ((bufsAt t).body (grid0.coords t)) K) :
    iprop((bufsAt t).insOwn c (insAt m c t) ∗ owns (c : Thread nD τ) (bufsAt t).a40 fullShare o ∗ (bufsAt t).scrOwn c S
        ∗ (leftAt m c t o -∗ K ⟨⟩))
      ⊢ wp frame (wpE (defs₀ (F := F)) Variants.none c none) E ((bufsAt t).body (grid0.coords t)) K := by
  iintro ⟨HI, HO, HS, Hk⟩
  iapply (h K)
  isplitl [HI]; · iexact HI
  isplitl [HO]; · iexact HO
  isplitl [HS]; · iexact HS
  iintro ⟨HI, HO, HS⟩
  iapply Hk
  unfold leftAt
  iexists S'; iexists o'
  isplitr
  · ipureintro; exact ⟨hS, ho⟩
  isplitl [HI]; · iexact HI
  isplitl [HO]; · iexact HO
  iexact HS

/-- The body at any point, from scratch arrays filled as far as the point finds them. -/
theorem run_point (c : Dev nD) (t : Fin cfg0.N) (S : Scr F) (o : Vec F S1x16 .f32) (h : Inv (insSeq m c) t.val S)
    (E : Set ℕ) (K : PUnit → sProp 𝕄) :
    iprop((bufsAt t).insOwn c (insAt m c t) ∗ owns (c : Thread nD τ) (bufsAt t).a40 fullShare o ∗ (bufsAt t).scrOwn c S
        ∗ (leftAt m c t o -∗ K ⟨⟩))
      ⊢ wp frame (wpE (defs₀ (F := F)) Variants.none c none) E ((bufsAt t).body (grid0.coords t)) K := by
  have hN : t.val < 12 := lt_of_lt_of_eq t.isLt (show cfg0.N = 12 from N_0)
  have hi := coord t
  have hX := insSeq_val m c t
  by_cases p1 : t.val < 4
  · have h1 := (cond1_at t).mpr p1
    have h3 : ¬ k0_cond3 (grid0.coords t) = 1#1 := fun e => by have := (cond3_at t).mp e; omega
    have h6 : ¬ k0_cond6 (grid0.coords t) = 1#1 := fun e => by have := (cond6_at t).mp e; omega
    by_cases z : t.val = 0
    · refine run_left m c t S (stepA0 (grid0.coords t) (insAt m c t) S) o o ?_ (if_neg (by omega)).symm E K fun K =>
        run_A0 (bufsAt t) c (grid0.coords t) (insAt m c t) S o h1 h3 h6 ((condA_at t).mpr z) E K
      rw [← hX, z]
      exact (z ▸ h : Inv (insSeq m c) 0 S).stepA0 (hi.trans z)
    · refine run_left m c t S (stepA (grid0.coords t) (insAt m c t) S) o o ?_ (if_neg (by omega)).symm E K fun K =>
        run_A (bufsAt t) c (grid0.coords t) (insAt m c t) S o h1 h3 h6 (fun e => z ((condA_at t).mp e)) E K
      rw [← hX]
      exact h.stepA hi (by omega) p1
  have h1 : ¬ k0_cond1 (grid0.coords t) = 1#1 := fun e => p1 ((cond1_at t).mp e)
  by_cases p2 : t.val < 8
  · have h3 := (cond3_at t).mpr ⟨by omega, p2⟩
    have h6 : ¬ k0_cond6 (grid0.coords t) = 1#1 := fun e => by have := (cond6_at t).mp e; omega
    by_cases z : t.val = 4
    · refine run_left m c t S (stepB (grid0.coords t) h3 true (insAt m c t) S) o o ?_ (if_neg (by omega)).symm E K fun K =>
        run_B0 (bufsAt t) c (grid0.coords t) (insAt m c t) S o h1 h3 h6 ((condB_at t).mpr z) (fun e => by have := (condB'_at t).mp e; omega) E K
      rw [← hX]
      exact h.stepB hi (by omega) p2 h3 true ⟨fun _ => z, fun _ => rfl⟩
    · refine run_left m c t S (stepB (grid0.coords t) h3 false (insAt m c t) S) o o ?_ (if_neg (by omega)).symm E K fun K =>
        run_B (bufsAt t) c (grid0.coords t) (insAt m c t) S o h1 h3 h6 (fun e => z ((condB_at t).mp e)) ((condB'_at t).mpr (by omega)) E K
      rw [← hX]
      exact h.stepB hi (by omega) p2 h3 false ⟨fun e => Bool.noConfusion e, fun e => absurd e z⟩
  have h3 : ¬ k0_cond3 (grid0.coords t) = 1#1 := fun e => p2 ((cond3_at t).mp e).2
  have h6 := (cond6_at t).mpr (by omega)
  by_cases z : t.val = 8
  · refine run_left m c t S (stepC (grid0.coords t) h6 true (insAt m c t) (prepC (insAt m c t) S)) o o ?_ (if_neg (by omega)).symm E K fun K =>
      run_C0 (bufsAt t) c (grid0.coords t) (insAt m c t) S o h1 h3 h6 ((condC_at t).mpr z) (fun e => by have := (condC'_at t).mp e; omega)
        (fun e => by have := (cond10_at t).mp e; omega) E K
    have h8 : InvC (insSeq m c) t.val (prepC (insSeq m c t.val) S) := by
      rw [z] at h ⊢; exact h.prepC
    rw [← hX]
    exact h8.stepC hi (by omega) hN h6 true ⟨fun _ => z, fun _ => rfl⟩
  have hC : Inv (insSeq m c) (t.val + 1) (stepC (grid0.coords t) h6 false (insAt m c t) S) := by
    rw [← hX]
    exact (h.inC (by omega)).stepC hi (by omega) hN h6 false ⟨fun e => Bool.noConfusion e, fun e => absurd e z⟩
  by_cases w : t.val = 11
  · refine run_left m c t S (stepC (grid0.coords t) h6 false (insAt m c t) S) o
      (readout (insAt m c t) (stepC (grid0.coords t) h6 false (insAt m c t) S)) hC ?_ E K fun K =>
      run_C3 (bufsAt t) c (grid0.coords t) (insAt m c t) S o h1 h3 h6 (fun e => z ((condC_at t).mp e)) ((condC'_at t).mpr (by omega))
        ((cond10_at t).mpr w) E K
    rw [if_pos w]
    have hS : stepC (grid0.coords t) h6 false (insAt m c t) S = final (insSeq m c) :=
      (show Inv (insSeq m c) 12 _ by rw [w] at hC; exact hC).done
    rw [hS, ← hX, w]
    rfl
  · exact run_left m c t S (stepC (grid0.coords t) h6 false (insAt m c t) S) o o hC (if_neg w).symm E K fun K =>
      run_C (bufsAt t) c (grid0.coords t) (insAt m c t) S o h1 h3 h6 (fun e => z ((condC_at t).mp e)) ((condC'_at t).mpr (by omega))
        (fun e => w ((cond10_at t).mp e)) E K

end Cert.KernelIdeal.Fused
-- ==== Proof.KernelIdeal.Region.lean ====
module

public import proofs.«01_k».proof.Proof.KernelIdeal.Point

@[expose] public section

set_option maxRecDepth 16384

noncomputable section

/-! # The body obligation

What the region gives the body and takes back, at a generic point. -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Fused
open Idealize.ShloMosaic.Pipeline (Dat Cfg Window BodyObligation)

variable (m : (ℓ : Loc nD τ sig) → Buf (Elt F) ℓ) (ρ : Dev nD → PrngReg)

/-! ## What the region is given and gives back -/

theorem PhiA_eq (c : Dev nD) :
    (Pipeline.ΦA spec0 c : sProp 𝕄)
      = iprop(iprop((∃ d, owns (c : Thread nD τ) (Memref.whole cc0_scratch0 : Memref sig .tc _ _ _) fullShare d) ∗ (∃ d, owns (c : Thread nD τ) (Memref.whole cc0_scratch1 : Memref sig .tc _ _ _) fullShare d) ∗ (∃ d, owns (c : Thread nD τ) (Memref.whole cc0_scratch2 : Memref sig .tc _ _ _) fullShare d) ∗ (∃ d, owns (c : Thread nD τ) (Memref.whole cc0_scratch3 : Memref sig .tc _ _ _) fullShare d) ∗ (∃ d, owns (c : Thread nD τ) (Memref.whole cc0_scratch4 : Memref sig .tc _ _ _) fullShare d) ∗ (∃ d, owns (c : Thread nD τ) (Memref.whole cc0_scratch5 : Memref sig .tc _ _ _) fullShare d) ∗ (∃ d, owns (c : Thread nD τ) (Memref.whole cc0_scratch6 : Memref sig .tc _ _ _) fullShare d) ∗ (∃ d, owns (c : Thread nD τ) (Memref.whole cc0_scratch7 : Memref sig .tc _ _ _) fullShare d) ∗ (∃ d, owns (c : Thread nD τ) (Memref.whole cc0_scratch8 : Memref sig .tc _ _ _) fullShare d) ∗ (∃ d, owns (c : Thread nD τ) (Memref.whole cc0_scratch9 : Memref sig .tc _ _ _) fullShare d) ∗ (∃ d, owns (c : Thread nD τ) (Memref.whole cc0_scratch10 : Memref sig .tc _ _ _) fullShare d) ∗ (∃ d, owns (c : Thread nD τ) (Memref.whole cc0_scratch11 : Memref sig .tc _ _ _) fullShare d) ∗ (∃ d, owns (c : Thread nD τ) (Memref.whole cc0_scratch12 : Memref sig .tc _ _ _) fullShare d) ∗ (∃ d, owns (c : Thread nD τ) (Memref.whole cc0_scratch13 : Memref sig .tc _ _ _) fullShare d) ∗ (∃ d, owns (c : Thread nD τ) (Memref.whole cc0_scratch14 : Memref sig .tc _ _ _) fullShare d)) ∗ (∃ r, prngReg c r)) := by
  unfold Pipeline.ΦA; rw [scopedRest0_eq]; simp only [owns_whole]; try rfl

theorem Phi_eq (c : Dev nD) (t : Fin (cfg0.N + 1)) : (dats m 0 c).Φ t = Phi m c t.val := by dsimp only [dats]

/-- Scratch arrays at anything are filled as far as the first point asks. -/
theorem hin (c : Dev nD) : Pipeline.ΦA spec0 c ⊢ (dats m 0 c).Φ 0 := by
  rw [Phi_eq, PhiA_eq]
  unfold Phi Bufs.scrOwn
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩, Hg⟩
  isplitr [Hg]
  swap; · iexact Hg
  iexists (⟨d0, d1, d2, d3, d4, d5, d6, d7, d8, d9, d10, d11, d12, d13, d14⟩ : Scr F)
  isplitr
  · ipureintro; exact Inv.start _ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- What the scratch arrays hold is forgotten at the end. -/
theorem hout (c : Dev nD) : (dats m 0 c).Φ (Fin.last cfg0.N) ⊢ Pipeline.ΦA spec0 c := by
  rw [Phi_eq, PhiA_eq]
  unfold Phi Bufs.scrOwn
  iintro ⟨⟨%S, -, H0, H1, H2, H3, H4, H5, H6, H7, H8, H9, H10, H11, H12, H13, H14⟩, Hg⟩
  isplitr [Hg]
  swap; · iexact Hg
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-! ## The body obligation -/

theorem idle_out (t : Fin cfg0.N) (h : t.val ≠ 11) : cfg0.idle 39 (grid0.coords t) = true := by
  revert t; decide +kernel

theorem live_out (t : Fin cfg0.N) (h : t.val = 11) : cfg0.idle 39 (grid0.coords t) = false := by
  revert t; decide +kernel

theorem flush_out (t : Fin cfg0.N) (h : t.val ≠ 11) : (cfg0.win 39).flush t = false := by
  have hN : t.val < 12 := lt_of_lt_of_eq t.isLt (show cfg0.N = 12 from N_0)
  have := flush0_39 t
  cases hf : (cfg0.win 39).flush t with
  | false => rfl
  | true => have := this.mp hf; omega

/-- The output window after the body, from what `leftAt` says of it. -/
theorem leaves_out (c : Dev nD) (t : Fin cfg0.N) (d) :
    owns (c : Thread nD τ) (bufsAt t).a40 fullShare (if t.val = 11 then result (insSeq m c) else (dats m 0 c).before 39 t d)
      ⊢ (dats m 0 c).leavesExact 39 t := by
  by_cases h : t.val = 11
  · rw [if_pos h]
    unfold Dat.leavesExact
    rw [show cfg0.idle 39 (cfg0.grid.coords t) = false from live_out t h, after_39]
    exact .rfl
  · rw [if_neg h, Dat.leavesExact_idle _ 39 t (idle_out t h) (flush_out t h)]
    iintro H
    iexists d
    iexact H

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d)) ∗ (∃ d, owns (c : Thread nD τ) (win0_16.stage (cfg0.slots t 16)) fullShare ((dats m 0 c).before 16 t d)) ∗ (∃ d, owns (c : Thread nD τ) (win0_17.stage (cfg0.slots t 17)) fullShare ((dats m 0 c).before 17 t d)) ∗ (∃ d, owns (c : Thread nD τ) (win0_18.stage (cfg0.slots t 18)) fullShare ((dats m 0 c).before 18 t d)) ∗ (∃ d, owns (c : Thread nD τ) (win0_19.stage (cfg0.slots t 19)) fullShare ((dats m 0 c).before 19 t d)) ∗ (∃ d, owns (c : Thread nD τ) (win0_20.stage (cfg0.slots t 20)) fullShare ((dats m 0 c).before 20 t d)) ∗ (∃ d, owns (c : Thread nD τ) (win0_21.stage (cfg0.slots t 21)) fullShare ((dats m 0 c).before 21 t d)) ∗ (∃ d, owns (c : Thread nD τ) (win0_22.stage (cfg0.slots t 22)) fullShare ((dats m 0 c).before 22 t d)) ∗ (∃ d, owns (c : Thread nD τ) (win0_23.stage (cfg0.slots t 23)) fullShare ((dats m 0 c).before 23 t d)) ∗ (∃ d, owns (c : Thread nD τ) (win0_24.stage (cfg0.slots t 24)) fullShare ((dats m 0 c).before 24 t d)) ∗ (∃ d, owns (c : Thread nD τ) (win0_25.stage (cfg0.slots t 25)) fullShare ((dats m 0 c).before 25 t d)) ∗ (∃ d, owns (c : Thread nD τ) (win0_26.stage (cfg0.slots t 26)) fullShare ((dats m 0 c).before 26 t d)) ∗ (∃ d, owns (c : Thread nD τ) (win0_27.stage (cfg0.slots t 27)) fullShare ((dats m 0 c).before 27 t d)) ∗ (∃ d, owns (c : Thread nD τ) (win0_28.stage (cfg0.slots t 28)) fullShare ((dats m 0 c).before 28 t d)) ∗ (∃ d, owns (c : Thread nD τ) (win0_29.stage (cfg0.slots t 29)) fullShare ((dats m 0 c).before 29 t d)) ∗ (∃ d, owns (c : Thread nD τ) (win0_30.stage (cfg0.slots t 30)) fullShare ((dats m 0 c).before 30 t d)) ∗ (∃ d, owns (c : Thread nD τ) (win0_31.stage (cfg0.slots t 31)) fullShare ((dats m 0 c).before 31 t d)) ∗ (∃ d, owns (c : Thread nD τ) (win0_32.stage (cfg0.slots t 32)) fullShare ((dats m 0 c).before 32 t d)) ∗ (∃ d, owns (c : Thread nD τ) (win0_33.stage (cfg0.slots t 33)) fullShare ((dats m 0 c).before 33 t d)) ∗ (∃ d, owns (c : Thread nD τ) (win0_34.stage (cfg0.slots t 34)) fullShare ((dats m 0 c).before 34 t d)) ∗ (∃ d, owns (c : Thread nD τ) (win0_35.stage (cfg0.slots t 35)) fullShare ((dats m 0 c).before 35 t d)) ∗ (∃ d, owns (c : Thread nD τ) (win0_36.stage (cfg0.slots t 36)) fullShare ((dats m 0 c).before 36 t d)) ∗ (∃ d, owns (c : Thread nD τ) (win0_37.stage (cfg0.slots t 37)) fullShare ((dats m 0 c).before 37 t d)) ∗ (∃ d, owns (c : Thread nD τ) (win0_38.stage (cfg0.slots t 38)) fullShare ((dats m 0 c).before 38 t d)) ∗ (∃ d, owns (c : Thread nD τ) (win0_39.stage (cfg0.slots t 39)) fullShare ((dats m 0 c).before 39 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t ∗ (dats m 0 c).leavesExact 22 t ∗ (dats m 0 c).leavesExact 23 t ∗ (dats m 0 c).leavesExact 24 t ∗ (dats m 0 c).leavesExact 25 t ∗ (dats m 0 c).leavesExact 26 t ∗ (dats m 0 c).leavesExact 27 t ∗ (dats m 0 c).leavesExact 28 t ∗ (dats m 0 c).leavesExact 29 t ∗ (dats m 0 c).leavesExact 30 t ∗ (dats m 0 c).leavesExact 31 t ∗ (dats m 0 c).leavesExact 32 t ∗ (dats m 0 c).leavesExact 33 t ∗ (dats m 0 c).leavesExact 34 t ∗ (dats m 0 c).leavesExact 35 t ∗ (dats m 0 c).leavesExact 36 t ∗ (dats m 0 c).leavesExact 37 t ∗ (dats m 0 c).leavesExact 38 t ∗ (dats m 0 c).leavesExact 39 t)

set_option maxHeartbeats 4800000 in
/-- The body at any point, between the two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [Phi_eq, Phi_eq]
  rw [show (dats m 0 c).owesAt () t.succ = (dats m 0 c).owesAt () t.castSucc from rfl]
  simp only [before_0, before_1, before_2, before_3, before_4, before_5, before_6, before_7, before_8, before_9, before_10, before_11, before_12, before_13, before_14, before_15, before_16, before_17, before_18, before_19, before_20, before_21, before_22, before_23, before_24, before_25, before_26, before_27, before_28, before_29, before_30, before_31, before_32, before_33, before_34, before_35, before_36, before_37, before_38, leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24, leaves_25, leaves_26, leaves_27, leaves_28, leaves_29, leaves_30, leaves_31, leaves_32, leaves_33, leaves_34, leaves_35, leaves_36, leaves_37, leaves_38]
  rw [show t.castSucc.val = t.val from rfl, show t.succ.val = t.val + 1 from rfl]
  unfold Phi
  iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩⟩
  iapply (run_point m c t S _ hS Set.univ _)
  isplitl [H0 H1 H2 H3 H4 H5 H6 H7 H8 H9 H10 H11 H12 H13 H14 H15 H16 H17 H18 H19 H20 H21 H22 H23 H24 H25 H26 H27 H28 H29 H30 H31 H32 H33 H34 H35 H36 H37 H38]
  · unfold Bufs.insOwn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    iexact H38
  isplitl [H39]; · iexact H39
  isplitl [HS]; · iexact HS
  unfold leftAt Bufs.insOwn
  iintro ⟨%S', %o', %h', ⟨H0, H1, H2, H3, H4, H5, H6, H7, H8, H9, H10, H11, H12, H13, H14, H15, H16, H17, H18, H19, H20, H21, H22, H23, H24, H25, H26, H27, H28, H29, H30, H31, H32, H33, H34, H35, H36, H37, H38⟩, H39, HS⟩
  obtain ⟨hS', ho'⟩ := h'
  subst ho'
  isplitl [HS Hg]
  · isplitl [HS]
    · iexists S'
      isplitr
      · ipureintro; exact hS'
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  iapply (leaves_out m c t d39)
  iexact H39

end Cert.KernelIdeal.Fused
-- ==== Proof.KernelIdeal.Launch.lean ====
module

public import proofs.«01_k».proof.Proof.KernelIdeal.Region

@[expose] public section

set_option maxRecDepth 16384

noncomputable section

/-! # The launch

Every execution of the program ends, with the pipeline's output at the result. -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Fused
open Idealize.ShloMosaic.Pipeline (Dat Cfg Window BodyObligation)

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 4800000 in
/-- The obligation the launch asks for. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost Dat.leavesExact
  exact .rfl

/-! ## The run and the frame -/

set_option backward.isDefEq.respectTransparency.types false in
/-- Every execution ends with the pipeline's arrays as the proof data says, every other array as the host operations leave it, and
every counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (hQ' := fun _ h => h)

end Cert.KernelIdeal.Fused
-- ==== Proof.KernelIdeal.Frame.lean ====
module

public import proofs.«01_k».proof.Proof.KernelIdeal.Launch
public import Idealize.ShloMosaic.Lib.Claim

@[expose] public section

set_option maxRecDepth 16384

noncomputable section

/-! # The frame -/

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Fused
-- ==== Proof.Same.Frame.lean ====
module

public import proofs.«01_k».proof.Defs
public import proofs.«01_k».proof.Proof.Same.Run
public import proofs.«01_k».proof.Proof.KernelIdeal.Frame

@[expose] public section

set_option maxRecDepth 16384
set_option maxHeartbeats 4000000

/-! # The kernel's frame

`Proof/KernelIdeal/Frame.lean` proves the frame for floats of any kind; read at the machine's floats it is the kernel's. -/

namespace Cert.Same

open Idealize.ShloMosaic Idealize.SL.Sem Cert

/-- What holds at the end of every run of the idealization's text holds at the end of every run of the kernel's. -/
theorem run_of_ideal {F : FTy → Type} [FloatOps F]
    (s : MemSt KernelIdeal.nD KernelIdeal.τ KernelIdeal.sig (Elt F))
    (Q : PUnit × MemSt KernelIdeal.nD KernelIdeal.τ KernelIdeal.sig (Elt F) → Prop)
    (h : θ_run (KernelIdeal.defs (F := F)) (onTc (τ := KernelIdeal.τ) (KernelIdeal.main (F := F))) s Q) :
    θ_run (Kernel.defs (F := F)) (onTc (τ := Kernel.τ) (Kernel.main (F := F))) s Q :=
  (congrArg₂ (fun d p => θ_run d (onTc p) s Q) defs_eq main_eq).mpr h

/-- Every execution of the kernel ends with the argument arrays unchanged and every counter at zero. -/
theorem frame : quiescent_Kernel := fun m g _ => run_of_ideal _ _ (KernelIdeal.Fused.frame m g)

end Cert.Same
-- ==== Proof.Reference.Run.lean ====
module

public import proofs.«01_k».proof.Proof.Gen.ReferenceIdeal.Run
public import proofs.«01_k».proof.Proof.Gen.ReferenceIdeal.Read

@[expose] public section

noncomputable section

end
-- ==== Proof.Reference.Frame.lean ====
/- The frame of the reference: it ends, keeps its arguments and leaves every semaphore at zero. -/
module

public import proofs.«01_k».proof.Proof.Reference.Run
public import Idealize.ShloMosaic.Lib.Quiescent

@[expose] public section

noncomputable section

namespace Cert.ReferenceIdeal.Fused
open Idealize.ShloMosaic Cert.ReferenceIdeal Cert.ReferenceIdeal.Gen

variable {F : FTy → Type} [FloatOps F]

/-- The reference's signature has no semaphore at all, so its counters are zero in every state. -/
theorem sem_zero (s : MemSt nD τ sig (Elt F)) : s.sem = fun _ => 0 :=
  sem_eq_zero_of_no_sems (by decide) s

end Cert.ReferenceIdeal.Fused
-- ==== Proof.Shared.Net.lean ====
/- The network over the extended reals, written element by element: what both programs compute.

`s`, `t` are a layer's stack and its rectified stack, `inc` and `outg` the attended sums over the columns and the
rows of the edge square, `nodes` and `edges` the layer's two results, `pool0` … `pool3` the four parts of the
pooled read-out. -/
module

public import Idealize.ShloMosaic.PureOps.Ideal
public import Idealize.ShloMosaic.Lib.Pointwise

@[expose] public section

noncomputable section

namespace Cert.Fused.Net
open Idealize.ShloMosaic

/-- Rows of node features, and the square of edge features of width `K`. -/
abbrev Nodes := Fin 128 → Fin 128 → EReal
abbrev Edges (K : ℕ) := Fin 128 → Fin 128 → Fin K → EReal

/-- The weights of one layer, its stacked matrices cut into the parts each operand meets. -/
structure Layer (K : ℕ) where
  wsi : Fin 128 → Fin 128 → EReal
  wsj : Fin 128 → Fin 128 → EReal
  wsa : Fin K → Fin 128 → EReal
  wsb : Fin K → Fin 128 → EReal
  bs : Fin 128 → EReal
  alpha : Fin 128 → EReal
  wai : Fin 128 → EReal
  bai : EReal
  waj : Fin 128 → EReal
  baj : EReal
  wnx : Fin 128 → Fin 128 → EReal
  wni : Fin 128 → Fin 128 → EReal
  wno : Fin 128 → Fin 128 → EReal
  bn : Fin 128 → EReal
  we : Fin 128 → Fin 128 → EReal
  be : Fin 128 → EReal

variable {K : ℕ} (L : Layer K) (x : Nodes) (e : Edges K)

/-- The stacked product at an edge. -/
def s (i j d : Fin 128) : EReal :=
  (∑ k, e i j k * L.wsa k d) + (∑ k, e j i k * L.wsb k d) + ((∑ k, x i k * L.wsi k d) + L.bs d) + ∑ k, x j k * L.wsj k d

/-- The parametric rectifier. -/
def prelu (a v : EReal) : EReal := if 0 ≤ v then v else a * v

def t (i j d : Fin 128) : EReal := prelu (L.alpha d) (s L x e i j d)

/-- The attention of an edge on its row's node and on its column's. -/
def attI (i j : Fin 128) : EReal := Ideal.logistic ((∑ d, t L x e i j d * L.wai d) + L.bai)
def attJ (i j : Fin 128) : EReal := Ideal.logistic ((∑ d, t L x e i j d * L.waj d) + L.baj)

def inc (i d : Fin 128) : EReal := ∑ j, t L x e i j d * attI L x e i j
def outg (j d : Fin 128) : EReal := ∑ i, t L x e i j d * attJ L x e i j

def nodes (i d : Fin 128) : EReal :=
  max ((∑ k, x i k * L.wnx k d) + (∑ k, inc L x e i k * L.wni k d) + (∑ k, outg L x e i k * L.wno k d) + L.bn d) 0

def edges (i j d : Fin 128) : EReal := Ideal.tanh ((∑ k, t L x e i j k * L.we k d) + L.be d)

/-- The whole network's inputs. -/
structure Inputs where
  x : Nodes
  e : Edges 64
  wp : Fin 64 → Fin 768 → EReal
  bp : Fin 768 → EReal
  l1 : Layer 768
  l2 : Layer 128
  wd0 : Fin 128 → Fin 16 → EReal
  wd1 : Fin 128 → Fin 16 → EReal
  wd2 : Fin 128 → Fin 16 → EReal
  wd3 : Fin 128 → Fin 16 → EReal
  bd : Fin 16 → EReal

variable (I : Inputs)

def e0 (i j : Fin 128) (k : Fin 768) : EReal := Ideal.tanh ((∑ l, I.e i j l * I.wp l k) + I.bp k)
def x1 : Nodes := nodes I.l1 I.x (e0 I)
def e1 : Edges 128 := edges I.l1 I.x (e0 I)
def x2 : Nodes := nodes I.l2 (x1 I) (e1 I)
def e2 : Edges 128 := edges I.l2 (x1 I) (e1 I)

/-- The four parts of the pooled read-out of node 0: its own features once per other node, the other nodes' features,
    the edges out of it, and the edges the strided read meets. -/
def pool0 (d : Fin 128) : EReal := ∑ _k : Fin 127, x2 I 0 d
def pool1 (d : Fin 128) : EReal := ∑ k : Fin 127, x2 I k.succ d
def pool2 (d : Fin 128) : EReal := ∑ k : Fin 127, e2 I 0 k.castSucc d
def pool3 (d : Fin 128) : EReal := e2 I 0 0 d + ∑ k : Fin 126, e2 I (k.castLE (by omega)) ⟨127 - k.val, by omega⟩ d

def logits (o : Fin 16) : EReal :=
  (∑ d, pool0 I d * I.wd0 d o) + (∑ d, pool1 I d * I.wd1 d o) + (∑ d, pool2 I d * I.wd2 d o)
    + (∑ d, pool3 I d * I.wd3 d o) + I.bd o

def soft (l : Fin 16 → EReal) (o : Fin 16) : EReal :=
  Ideal.div (Ideal.exp (l o - Finset.fold max (Ideal.ofBits .f32 4286578688#32) l Finset.univ))
    (∑ o', Ideal.exp (l o' - Finset.fold max (Ideal.ofBits .f32 4286578688#32) l Finset.univ))

/-- The network's result. -/
def out (o : Fin 16) : EReal := soft (logits I) o

end Cert.Fused.Net
-- ==== Proof.Shared.Finite.lean ====
/- Which of the network's values are finite.

The read-out subtracts node 0's features from the sum over all nodes. That undoes the addition of a finite value only,
so the features after the second layer are shown finite where the weights on the way to them are. -/
module

public import proofs.«01_k».proof.Proof.Shared.Net

@[expose] public section

noncomputable section

namespace Cert.Fused.Net
open Idealize.ShloMosaic

/-- `v` is a real number. -/
def IsReal (v : EReal) : Prop := ∃ r : ℝ, v = (r : EReal)

namespace IsReal

theorem add {a b : EReal} : IsReal a → IsReal b → IsReal (a + b) := by
  rintro ⟨r, rfl⟩ ⟨s, rfl⟩; exact ⟨r + s, (EReal.coe_add r s).symm⟩

theorem mul {a b : EReal} : IsReal a → IsReal b → IsReal (a * b) := by
  rintro ⟨r, rfl⟩ ⟨s, rfl⟩; exact ⟨r * s, (EReal.coe_mul r s).symm⟩

theorem zero : IsReal 0 := ⟨0, EReal.coe_zero.symm⟩

theorem sum {n : ℕ} {f : Fin n → EReal} (h : ∀ k, IsReal (f k)) : IsReal (∑ k, f k) :=
  Finset.sum_induction f IsReal (fun _ _ => add) zero fun k _ => h k

theorem max {a b : EReal} (ha : IsReal a) (hb : IsReal b) : IsReal (max a b) := by
  rcases max_choice a b with h | h <;> rw [h] <;> assumption

/-- The hyperbolic tangent is finite everywhere, -/
theorem tanh (v : EReal) : IsReal (Ideal.tanh v) := by
  induction v with
  | bot => exact ⟨-1, rfl⟩
  | coe r => exact ⟨Real.tanh r, rfl⟩
  | top => exact ⟨1, rfl⟩

/-- and so is the logistic function. -/
theorem logistic (v : EReal) : IsReal (Ideal.logistic v) := by
  induction v with
  | bot => exact ⟨0, by simp⟩
  | coe r =>
    refine ⟨1 * (1 + Real.exp (-r))⁻¹, ?_⟩
    have e : Ideal.exp (-(r : EReal)) = ((Real.exp (-r) : ℝ) : EReal) := rfl
    have hp : (1 : EReal) + ((Real.exp (-r) : ℝ) : EReal) = ((1 + Real.exp (-r) : ℝ) : EReal) := by
      rw [EReal.coe_add, EReal.coe_one]
    have h0 : ((1 + Real.exp (-r) : ℝ) : EReal) ≠ 0 := by
      have := Real.exp_pos (-r)
      exact_mod_cast (by linarith : (0 : ℝ) < 1 + Real.exp (-r)).ne'
    unfold Ideal.logistic Ideal.div
    rw [e, hp, if_neg h0, EReal.coe_mul, EReal.coe_one, EReal.coe_inv]
  | top => exact ⟨1, by simp⟩

end IsReal

variable {K : ℕ} {L : Layer K} {x : Nodes} {e : Edges K}

/-- What of a layer must be finite for its node features to be. -/
structure FiniteLayer (L : Layer K) : Prop where
  wsi : ∀ k d, IsReal (L.wsi k d)
  wsj : ∀ k d, IsReal (L.wsj k d)
  wsa : ∀ k d, IsReal (L.wsa k d)
  wsb : ∀ k d, IsReal (L.wsb k d)
  bs : ∀ d, IsReal (L.bs d)
  alpha : ∀ d, IsReal (L.alpha d)
  wnx : ∀ k d, IsReal (L.wnx k d)
  wni : ∀ k d, IsReal (L.wni k d)
  wno : ∀ k d, IsReal (L.wno k d)
  bn : ∀ d, IsReal (L.bn d)

section Layer
variable (hL : FiniteLayer L) (hx : ∀ i k, IsReal (x i k)) (he : ∀ i j k, IsReal (e i j k))
include hL hx he

/-- The rectified stack is finite, -/
theorem real_t (i j d : Fin 128) : IsReal (t L x e i j d) := by
  have hs : IsReal (s L x e i j d) :=
    ((((IsReal.sum fun k => (he i j k).mul (hL.wsa k d)).add (IsReal.sum fun k => (he j i k).mul (hL.wsb k d))).add
      ((IsReal.sum fun k => (hx i k).mul (hL.wsi k d)).add (hL.bs d))).add (IsReal.sum fun k => (hx j k).mul (hL.wsj k d)))
  unfold t prelu
  split_ifs
  · exact hs
  · exact (hL.alpha d).mul hs

/-- and so are the new node features. -/
theorem real_nodes (i d : Fin 128) : IsReal (nodes L x e i d) := by
  have hi : ∀ k, IsReal (inc L x e i k) := fun k =>
    IsReal.sum fun j => (real_t hL hx he i j k).mul (IsReal.logistic _)
  have ho : ∀ k, IsReal (outg L x e i k) := fun k =>
    IsReal.sum fun j => (real_t hL hx he j i k).mul (IsReal.logistic _)
  exact ((((IsReal.sum fun k => (hx i k).mul (hL.wnx k d)).add (IsReal.sum fun k => (hi k).mul (hL.wni k d))).add
    (IsReal.sum fun k => (ho k).mul (hL.wno k d))).add (hL.bn d)).max IsReal.zero

end Layer

/-- What of the network's inputs must be finite for the read-out's subtraction. -/
structure FiniteInputs (I : Inputs) : Prop where
  x : ∀ i k, IsReal (I.x i k)
  l1 : FiniteLayer I.l1
  l2 : FiniteLayer I.l2

variable {I : Inputs}

/-- The node features after the second layer are finite. -/
theorem real_x2 (h : FiniteInputs I) (i d : Fin 128) : IsReal (x2 I i d) :=
  real_nodes h.l2 (real_nodes h.l1 h.x fun _ _ _ => IsReal.tanh _) (fun _ _ _ => IsReal.tanh _) i d

/-- The sum over all nodes less node 0 is the sum over the others. -/
theorem pool1_eq (h : FiniteInputs I) (d : Fin 128) : (∑ i, x2 I i d) - x2 I 0 d = pool1 I d := by
  obtain ⟨r, hr⟩ := real_x2 h 0 d
  rw [Fin.sum_univ_succ, hr, add_comm]
  exact EReal.add_sub_cancel_right

/-- Node 0's features once per other node, as a product. -/
theorem pool0_eq (d : Fin 128) : Ideal.ofBits .f32 1123942400#32 * x2 I 0 d = pool0 I d := by
  have h127 : Ideal.ofBits .f32 1123942400#32 = ((127 : ℕ) : EReal) := by
    rw [show ((127 : ℕ) : EReal) = ((127 : ℝ) : EReal) by norm_cast]
    simp [Ideal.ofBits, Ideal.ieee, -EReal.coe_mul]
    norm_num
  unfold pool0
  rw [Finset.sum_const, Finset.card_univ, Fintype.card_fin, EReal.nsmul_eq_mul, h127]

/-- A sum under a mask of the first `n` positions is the sum over them. -/
theorem sum_mask {m n : ℕ} (hn : n ≤ m) (f : Fin m → EReal) :
    (∑ k : Fin m, f k * if k.val < n then 1 else 0) = ∑ k : Fin n, f (k.castLE hn) := by
  obtain ⟨c, rfl⟩ := Nat.exists_eq_add_of_le hn
  rw [Fin.sum_univ_add]
  simp
  rfl

end Cert.Fused.Net
-- ==== Proof.Shared.Inputs.lean ====
/- The network's inputs, read off the argument arrays. -/
module

public import proofs.«01_k».proof.Proof.Shared.Net

@[expose] public section

noncomputable section

namespace Cert.Fused.Net
open Idealize.ShloMosaic

/-- An array of extended reals of one or two axes. -/
abbrev Arr1 (a : ℕ) := (⟨1, ![a]⟩ : Shape).Idx → EReal
abbrev Arr2 (a b : ℕ) := (⟨2, ![a, b]⟩ : Shape).Idx → EReal

/-- A layer's weights from its arrays: the rows of the stacked matrices belong to the row's node, the column's node,
    the edge and the reversed edge; those of the node matrix to the node and its two sums. -/
def layerOf {K n : ℕ} (hn : n = 256 + K + K) (ws : Arr2 n 128) (bs alpha : Arr1 128) (wai : Arr2 128 1) (bai : Arr1 1)
    (waj : Arr2 128 1) (baj : Arr1 1) (wn : Arr2 384 128) (bn : Arr1 128) (we : Arr2 128 128) (be : Arr1 128) : Layer K where
  wsi k d := ws (ix2 ⟨k, by omega⟩ d)
  wsj k d := ws (ix2 ⟨128 + k, by omega⟩ d)
  wsa k d := ws (ix2 ⟨256 + k, by omega⟩ d)
  wsb k d := ws (ix2 ⟨256 + K + k, by omega⟩ d)
  bs d := bs (ix1 d)
  alpha d := alpha (ix1 d)
  wai d := wai (ix2 d 0)
  bai := bai (ix1 0)
  waj d := waj (ix2 d 0)
  baj := baj (ix1 0)
  wnx k d := wn (ix2 ⟨k, by omega⟩ d)
  wni k d := wn (ix2 ⟨128 + k, by omega⟩ d)
  wno k d := wn (ix2 ⟨256 + k, by omega⟩ d)
  bn d := bn (ix1 d)
  we k d := we (ix2 k d)
  be d := be (ix1 d)

/-- The programs' argument arrays (the unused one apart). -/
structure Arrays where
  x0 : Arr2 128 128
  x1 : Arr2 128 128
  x2 : Arr2 16384 64
  x4 : Arr2 64 768
  x5 : Arr1 768
  x6 : Arr2 1792 128
  x7 : Arr1 128
  x8 : Arr1 128
  x9 : Arr2 128 1
  x10 : Arr1 1
  x11 : Arr2 128 1
  x12 : Arr1 1
  x13 : Arr2 384 128
  x14 : Arr1 128
  x15 : Arr2 128 128
  x16 : Arr1 128
  x17 : Arr2 512 128
  x18 : Arr1 128
  x19 : Arr1 128
  x20 : Arr2 128 1
  x21 : Arr1 1
  x22 : Arr2 128 1
  x23 : Arr1 1
  x24 : Arr2 384 128
  x25 : Arr1 128
  x26 : Arr2 128 128
  x27 : Arr1 128
  x28 : Arr2 512 16
  x29 : Arr1 16

/-- The network's inputs from the arrays; the edge mask is no part of them. -/
def inputsOf (A : Arrays) : Inputs where
  x i k := A.x0 (ix2 i k)
  e i j l := A.x2 (ix2 ⟨i.val * 128 + j.val, by omega⟩ l)
  wp l k := A.x4 (ix2 l k)
  bp k := A.x5 (ix1 k)
  l1 := layerOf (by norm_num) A.x6 A.x7 A.x8 A.x9 A.x10 A.x11 A.x12 A.x13 A.x14 A.x15 A.x16
  l2 := layerOf (by norm_num) A.x17 A.x18 A.x19 A.x20 A.x21 A.x22 A.x23 A.x24 A.x25 A.x26 A.x27
  wd0 k o := A.x28 (ix2 ⟨k, by omega⟩ o)
  wd1 k o := A.x28 (ix2 ⟨128 + k, by omega⟩ o)
  wd2 k o := A.x28 (ix2 ⟨256 + k, by omega⟩ o)
  wd3 k o := A.x28 (ix2 ⟨384 + k, by omega⟩ o)
  bd o := A.x29 (ix1 o)

end Cert.Fused.Net
-- ==== Proof.Precondition.lean ====
/- What the precondition says of the arrays. -/
module

public import proofs.«01_k».proof.Pre_complete
public import proofs.«01_k».proof.Proof.Shared.Finite
public import proofs.«01_k».proof.Proof.Shared.Inputs
public import Idealize.ShloMosaic.Lib.ReduceAll
public import Idealize.ShloMosaic.Lib.Pointwise
public import Idealize.ShloMosaic.Lib.IdealHost

@[expose] public section

set_option maxRecDepth 16384

noncomputable section

namespace Cert.Pre_complete
open Idealize.ShloMosaic Cert.Fused.Net

/-- The shapes fit. -/
instance facts : Facts where
  bcast_S_S128x128 := by decide
  reducesTo_S128x128_S_d0_1 := by decide
  h_S_ := by decide
  bcast_S_S1792x128 := by decide
  reducesTo_S1792x128_S_d0_1 := by decide
  bcast_S_S128 := by decide
  reducesTo_S128_S_d0 := by decide
  bcast_S_S384x128 := by decide
  reducesTo_S384x128_S_d0_1 := by decide
  bcast_S_S512x128 := by decide
  reducesTo_S512x128_S_d0_1 := by decide

/-- An extended real less itself is 0 exactly where it is a real number. -/
theorem isReal_of_sub_self {v : EReal} (h : v - v = 0) : IsReal v := by
  induction v with
  | bot => exact absurd h (by decide)
  | coe r => exact ⟨r, rfl⟩
  | top => exact absurd h (by decide)

instance : Subsingleton S_.Idx := ⟨fun i j => funext fun a => a.elim0⟩

/-- The comparison for equality. -/
theorem eq_of_oeq {a b : EReal} (h : Ideal.cmp .oeq a b = 1#1) : a = b := by
  by_contra hn
  simp [Ideal.cmp, hn] at h

/-- An array whose elements are all 0 less themselves is real, -/
theorem real_of_all {s : Shape} {axes : List (Fin s.rank)} (v : FVec Ideal s .f32) (hb : S_.BroadcastsInDim s (![] : Fin 0 → Fin s.rank))
    (hr : s.ReducesTo axes S_) (hu : 0 < S_.numel) (j : S_.Idx)
    (e : Host.reduce IntOp.andi (cmpf .oeq (subf v v) (broadcastInDim s ![] hb (constant S_ .f32 0x00000000#32))) (constantI S_ 1 1#1) hr hu j = 1#1)
    (i : s.Idx) : IsReal (v i) := by
  have h := Host.reduce_andi_all _ _ hr hu j e i
  have h' : Ideal.cmp .oeq (v i - v i) (Ideal.ofBits .f32 0x00000000#32) = 1#1 := h
  exact isReal_of_sub_self ((eq_of_oeq h').trans Ideal.ofBits_zero_f32)

/-- and one whose elements all equal 1 is 1. -/
theorem one_of_all {s : Shape} {axes : List (Fin s.rank)} (v : FVec Ideal s .f32) (hb : S_.BroadcastsInDim s (![] : Fin 0 → Fin s.rank))
    (hr : s.ReducesTo axes S_) (hu : 0 < S_.numel) (j : S_.Idx)
    (e : Host.reduce IntOp.andi (cmpf .oeq v (broadcastInDim s ![] hb (constant S_ .f32 0x3F800000#32))) (constantI S_ 1 1#1) hr hu j = 1#1)
    (i : s.Idx) : v i = 1 := by
  have h := Host.reduce_andi_all _ _ hr hu j e i
  have h' : Ideal.cmp .oeq (v i) (Ideal.ofBits .f32 0x3F800000#32) = 1#1 := h
  exact (eq_of_oeq h').trans Ideal.ofBits_one_f32

/-- Where the precondition holds, the edge mask is all ones and the arrays the node features come from are real. -/
theorem reads_of_complete [Facts] (A : Arrays) (u : Arr1 1)
    (h : fn (F := Ideal) A.x0 A.x1 A.x2 u A.x4 A.x5 A.x6 A.x7 A.x8 A.x9 A.x10 A.x11 A.x12 A.x13 A.x14 A.x15 A.x16 A.x17 A.x18 A.x19 A.x20 A.x21 A.x22 A.x23 A.x24 A.x25 A.x26 A.x27 A.x28 A.x29 = fun _ => 1#1) :
    (∀ i, A.x1 i = 1) ∧ FiniteInputs (inputsOf A) := by
  have h0 := congrFun h (fun a => a.elim0 : S_.Idx)
  unfold fn fn_part1 fn_part2 fn_part3 at h0
  dsimp only at h0
  simp only [andi, IntOp.andi_eq_one] at h0
  obtain ⟨⟨⟨⟨⟨⟨⟨⟨⟨⟨⟨h1, x0⟩, x6⟩, x7⟩, x8⟩, x13⟩, x14⟩, x17⟩, x18⟩, x19⟩, x24⟩, x25⟩ := h0
  refine ⟨one_of_all A.x1 _ _ _ _ h1, ?_, ?_, ?_⟩
  · exact fun i k => real_of_all A.x0 _ _ _ _ x0 _
  · have r6 := real_of_all A.x6 _ _ _ _ x6
    have r13 := real_of_all A.x13 _ _ _ _ x13
    exact ⟨fun _ _ => r6 _, fun _ _ => r6 _, fun _ _ => r6 _, fun _ _ => r6 _, fun _ => real_of_all A.x7 _ _ _ _ x7 _,
      fun _ => real_of_all A.x8 _ _ _ _ x8 _, fun _ _ => r13 _, fun _ _ => r13 _, fun _ _ => r13 _,
      fun _ => real_of_all A.x14 _ _ _ _ x14 _⟩
  · have r17 := real_of_all A.x17 _ _ _ _ x17
    have r24 := real_of_all A.x24 _ _ _ _ x24
    exact ⟨fun _ _ => r17 _, fun _ _ => r17 _, fun _ _ => r17 _, fun _ _ => r17 _, fun _ => real_of_all A.x18 _ _ _ _ x18 _,
      fun _ => real_of_all A.x19 _ _ _ _ x19 _, fun _ _ => r24 _, fun _ _ => r24 _, fun _ _ => r24 _,
      fun _ => real_of_all A.x25 _ _ _ _ x25 _⟩

end Cert.Pre_complete
-- ==== Proof.KernelIdeal.Value.lean ====
/- What the program leaves in its result. -/
module

public import proofs.«01_k».proof.Proof.KernelIdeal.Frame
public import proofs.«01_k».proof.Proof.KernelIdeal.Data
public import Idealize.ShloMosaic.Lib.Pointwise
public import Idealize.ShloMosaic.Lib.Pipeline.ValueKit

@[expose] public section

set_option maxRecDepth 16384

noncomputable section

namespace Cert.KernelIdeal.Fused
open Idealize.ShloMosaic Idealize.ShloMosaic.TcCoe Cert.KernelIdeal Cert.KernelIdeal.Gen

variable {F : FTy → Type} [FloatOps F]
variable (m : (ℓ : Loc nD τ sig) → Buf (Elt F) ℓ) (ρ : Dev nD → PrngReg)

/-- The last grid point. -/
def lastPoint : Fin cfg0.N := ⟨11, by rw [show cfg0.N = 12 from N_0]; omega⟩

/-- The output array holds what the last point stores. -/
theorem out_array (c : Dev nD) : (dats m 0 c).arrAt 39 cfg0.N = result (insSeq m c) := by
  refine (dats m 0 c).arrAt_eq_of_after_last 39 lastPoint (by decide +kernel) _ fun j => ?_
  blk_simp
  rw [after_39]

/-- The result is the output array reshaped. -/
theorem result_array (c : Dev nD) : Pipeline.afterTail₀ cfgs (dats m) 0 (V0 m) [hostOps1] c main_v40
    = shapeCast S16 (result (insSeq m c)) shapeCasts_S1x16_S16 := by
  unfold Pipeline.afterTail₀
  simp only [hostOps1, List.flatten_cons, List.flatten_nil, List.append_nil]
  after_results
  have e : Pipeline.withArrays cfg0.spec c (V0 m c) (fun w => (dats m 0 c).arrAt w cfg0.N) (Proc.devRef .tc main_v39) = result (insSeq m c) :=
    (Pipeline.withArrays_arr cfg0.spec launch0.win.arr_inj c (V0 m c) (fun w => (dats m 0 c).arrAt w cfg0.N) 39).trans (out_array m c)
  exact congrArg (fun v => shapeCast S16 v shapeCasts_S1x16_S16) e

/-- Every execution leaves the reshaped output in the result. -/
theorem run_result : θ_run defs (onTc (τ := τ) (main (F := F))) ⟨m, fun _ => 0, ρ⟩ (fun r => ∀ c : Dev nD,
    r.2.mem ((c.tc : Thread nD τ).loc main_v40) = shapeCast S16 (result (insSeq m c)) shapeCasts_S1x16_S16) :=
  (θ_run defs _ _).mono (fun r h c =>
    ((h.1 c).2 main_v40 (Pipeline.mem_restRefs_of main_v40 (by decide) (by decide))).trans (result_array m c)) (run_main m ρ)

end Cert.KernelIdeal.Fused
-- ==== Proof.Shared.Cut.lean ====
/- Sums over a concatenated axis, cut into one sum per piece. -/
module

public import proofs.«01_k».proof.Proof.Shared.Inputs

@[expose] public section

noncomputable section

namespace Cert.Fused.Net
open Idealize.ShloMosaic

/-- A sum over `a + b` positions is the sum over the first `a` and the sum over the last `b`. -/
theorem sum_cut {n : ℕ} (a b : ℕ) (h : n = a + b) (f : Fin n → EReal) :
    ∑ x, f x = ∑ k : Fin a, f ⟨k, by omega⟩ + ∑ k : Fin b, f ⟨a + k, by omega⟩ := by
  subst h; exact Fin.sum_univ_add f

/-- A product against a row glued of three parts. -/
theorem sum_glue3 {a b c n : ℕ} (hn : n = a + b + c) (A : Fin a → EReal) (B : Fin b → EReal) (C : Fin c → EReal)
    (w : Fin n → EReal) :
    (∑ x : Fin n, (if h : x.val < a then A ⟨x, h⟩ else if h' : x.val - a < b then B ⟨x.val - a, h'⟩
        else C ⟨x.val - a - b, by omega⟩) * w x)
      = ∑ k, A k * w ⟨k, by omega⟩ + ∑ k : Fin b, B k * w ⟨a + k, by omega⟩
        + ∑ k : Fin c, C k * w ⟨a + b + k, by omega⟩ := by
  rw [sum_cut (a + b) c hn, sum_cut a b rfl]
  refine congrArg₂ (· + ·) (congrArg₂ (· + ·) (Finset.sum_congr rfl fun k _ => ?_) (Finset.sum_congr rfl fun k _ => ?_))
    (Finset.sum_congr rfl fun k _ => ?_)
  · rw [dif_pos k.isLt]
  · rw [dif_neg (by simp), dif_pos (by simp)]
    congr 2; ext; simp
  · rw [dif_neg (by simp; omega), dif_neg (by simp; omega)]
    congr 2; ext; simp; omega

/-- A product against a row glued of four parts. -/
theorem sum_glue4 {a b c d n : ℕ} (hn : n = a + b + c + d) (A : Fin a → EReal) (B : Fin b → EReal) (C : Fin c → EReal)
    (D : Fin d → EReal) (w : Fin n → EReal) :
    (∑ x : Fin n, (if h : x.val < a then A ⟨x, h⟩ else if h' : x.val - a < b then B ⟨x.val - a, h'⟩
        else if h'' : x.val - a - b < c then C ⟨x.val - a - b, h''⟩ else D ⟨x.val - a - b - c, by omega⟩) * w x)
      = ∑ k, A k * w ⟨k, by omega⟩ + ∑ k : Fin b, B k * w ⟨a + k, by omega⟩
        + ∑ k : Fin c, C k * w ⟨a + b + k, by omega⟩ + ∑ k : Fin d, D k * w ⟨a + b + c + k, by omega⟩ := by
  rw [sum_cut (a + b + c) d hn]
  refine congrArg₂ (· + ·) ((Finset.sum_congr rfl fun k _ => ?_).trans
    (sum_glue3 (n := a + b + c) rfl A B C fun k => w ⟨k, by omega⟩)) (Finset.sum_congr rfl fun k _ => ?_)
  · have hk := k.isLt
    split_ifs <;> first | rfl | (exfalso; dsimp only at *; omega)
  · rw [dif_neg (by simp; omega), dif_neg (by simp; omega), dif_neg (by simp; omega)]
    congr 2; ext; simp; omega

section Stack
variable {K n : ℕ} (hn : n = 256 + K + K) (ws : Arr2 n 128) (bs alpha : Arr1 128) (wai : Arr2 128 1) (bai : Arr1 1)
    (waj : Arr2 128 1) (baj : Arr1 1) (wn : Arr2 384 128) (bn : Arr1 128) (we : Arr2 128 128) (be : Arr1 128)
    (X : Nodes) (E : Edges K)

/-- The stack of the two nodes', the edge's and the reversed edge's features times the stacked matrix is `s`. -/
theorem stack_eq (i j d : Fin 128) :
    (∑ x : Fin n, (if h : x.val < 128 then X i ⟨x, h⟩ else if h' : x.val - 128 < 128 then X j ⟨x.val - 128, h'⟩
        else if h'' : x.val - 128 - 128 < K then E i j ⟨x.val - 128 - 128, h''⟩
        else E j i ⟨x.val - 128 - 128 - K, by omega⟩) * ws (ix2 x d)) + bs (ix1 d)
      = s (layerOf hn ws bs alpha wai bai waj baj wn bn we be) X E i j d := by
  rw [sum_glue4 (a := 128) (b := 128) (c := K) (d := K) (by omega) (X i) (X j) (E i j) (E j i) fun x => ws (ix2 x d)]
  unfold s layerOf
  simp only [Nat.reduceAdd]
  ac_rfl

/-- The features glued to the two attended sums, times the node matrix, rectified, are the new features. -/
theorem glued_eq (i d : Fin 128) (I O : Nodes)
    (hI : I = inc (layerOf hn ws bs alpha wai bai waj baj wn bn we be) X E)
    (hO : O = outg (layerOf hn ws bs alpha wai bai waj baj wn bn we be) X E) :
    max ((∑ x : Fin 384, (if h : x.val < 128 then X i ⟨x, h⟩ else if h' : x.val - 128 < 128 then I i ⟨x.val - 128, h'⟩
        else O i ⟨x.val - 128 - 128, by omega⟩) * wn (ix2 x d)) + bn (ix1 d)) 0
      = nodes (layerOf hn ws bs alpha wai bai waj baj wn bn we be) X E i d := by
  rw [sum_glue3 (a := 128) (b := 128) (c := 128) (by omega) (X i) (I i) (O i) fun x => wn (ix2 x d), hI, hO]
  rfl

end Stack

end Cert.Fused.Net
-- ==== Proof.Shared.Glue.lean ====
/- Glued arrays read at an index, and sums over 128 rows taken 32 at a time. -/
module

public import proofs.«01_k».proof.Proof.Shared.Blocks
public import proofs.«01_k».proof.Proof.Shared.Cut

@[expose] public section

noncomputable section

namespace Cert.Fused
open Idealize.ShloMosaic

/-- Row `r` of block `k` of 32 rows. -/
def row (k : Fin 4) (r : Fin 32) : Fin 128 := ⟨32 * k.val + r.val, by omega⟩

/-- Every row is one of a block. -/
theorem eq_row (i : Fin 128) : i = row ⟨i.val / 32, by omega⟩ ⟨i.val % 32, by omega⟩ :=
  Fin.ext (by simp only [row]; omega)

variable {α : Type}

theorem rows3_at (x : Cube α) (k : Fin 4) (r : Fin 32) (j d : Fin 128) :
    rows3 x k.val (ix3 r j d) = x (ix3 (row k r) j d) :=
  congrArg x (funext fun a => match a with
    | ⟨0, _⟩ => Fin.ext (Nat.mod_eq_of_lt (by show 32 * k.val + r.val < 128; omega))
    | ⟨1, _⟩ => rfl
    | ⟨2, _⟩ => rfl)

theorem rows2_at (x : Sq α) (k : Fin 4) (r : Fin 32) (d : Fin 128) : rows2 x k.val (ix2 r d) = x (ix2 (row k r) d) :=
  congrArg x (funext fun a => match a with
    | ⟨0, _⟩ => Fin.ext (Nat.mod_eq_of_lt (by show 32 * k.val + r.val < 128; omega))
    | ⟨1, _⟩ => rfl)

/-- A cube glued of blocks of rows holds `f` where each block holds its rows of `f`; -/
theorem glueRows3_eq (w : ℕ → Slab α) (f : Fin 128 → Fin 128 → Fin 128 → α)
    (h : ∀ (k : Fin 4) (r : Fin 32) (j d : Fin 128), w k.val (ix3 r j d) = f (row k r) j d) (i j d : Fin 128) :
    glueRows3 w (ix3 i j d) = f i j d := by
  refine Eq.trans (congrArg (w (i.val / 32)) ?_) ((h ⟨i.val / 32, by omega⟩ ⟨i.val % 32, by omega⟩ j d).trans
    (congrArg (fun a => f a j d) (eq_row i).symm))
  exact funext fun a => match a with | ⟨0, _⟩ => rfl | ⟨1, _⟩ => rfl | ⟨2, _⟩ => rfl

/-- so of blocks of columns; -/
theorem glueCols3_eq (w : ℕ → Side α) (f : Fin 128 → Fin 128 → Fin 128 → α)
    (h : ∀ (k : Fin 4) (r : Fin 32) (i d : Fin 128), w k.val (ix3 i r d) = f i (row k r) d) (i j d : Fin 128) :
    glueCols3 w (ix3 i j d) = f i j d := by
  refine Eq.trans (congrArg (w (j.val / 32)) ?_) ((h ⟨j.val / 32, by omega⟩ ⟨j.val % 32, by omega⟩ i d).trans
    (congrArg (fun a => f i a d) (eq_row j).symm))
  exact funext fun a => match a with | ⟨0, _⟩ => rfl | ⟨1, _⟩ => rfl | ⟨2, _⟩ => rfl

/-- and a matrix of blocks of rows. -/
theorem glueRows2_eq (w : ℕ → Strip α) (f : Fin 128 → Fin 128 → α)
    (h : ∀ (k : Fin 4) (r : Fin 32) (d : Fin 128), w k.val (ix2 r d) = f (row k r) d) (i d : Fin 128) :
    glueRows2 w (ix2 i d) = f i d := by
  refine Eq.trans (congrArg (w (i.val / 32)) ?_) ((h ⟨i.val / 32, by omega⟩ ⟨i.val % 32, by omega⟩ d).trans
    (congrArg (fun a => f a d) (eq_row i).symm))
  exact funext fun a => match a with | ⟨0, _⟩ => rfl | ⟨1, _⟩ => rfl

/-- A sum over the rows, block by block. -/
theorem sum_rows (f : Fin 128 → EReal) :
    ∑ i, f i = ∑ r, f (row 0 r) + ∑ r, f (row 1 r) + ∑ r, f (row 2 r) + ∑ r, f (row 3 r) := by
  rw [Net.sum_cut 96 32 rfl, Net.sum_cut 64 32 rfl, Net.sum_cut 32 32 rfl]
  refine congrArg₂ (· + ·) (congrArg₂ (· + ·) (congrArg₂ (· + ·) ?_ ?_) ?_) ?_ <;>
  exact Finset.sum_congr rfl fun r _ => congrArg f (Fin.ext (by simp [row]))

end Cert.Fused
-- ==== Proof.KernelIdeal.Reads.lean ====
/- What the kernel's blocks hold, in the network's terms. -/
module

public import proofs.«01_k».proof.Proof.KernelIdeal.Args
public import proofs.«01_k».proof.Proof.Shared.Glue

@[expose] public section

noncomputable section

namespace Cert.KernelIdeal.Fused
open Idealize.ShloMosaic Cert.KernelIdeal Cert.Fused Cert.Fused.Net

/-- The blocks `X n` of the grid's points hold the network's inputs: the edges 32 rows at a time at the first four
    points, everything else whole at every point. -/
structure Reads (X : ℕ → Ins Ideal) (I : Inputs) : Prop where
  x1 : ∀ (n : Fin 4) (r : Fin 32) (j : Fin 128) (l : Fin 64), (X n.val).x1 (ix3 r j l) = I.e (row n r) j l
  x2 : ∀ (n : ℕ) (i k : Fin 128), (X n).x2 (ix2 i k) = I.x i k
  x3 : ∀ (n : ℕ) (l : Fin 64) (k : Fin 768), (X n).x3 (ix2 l k) = I.wp l k
  x4 : ∀ (n : ℕ) (k : Fin 768), (X n).x4 (ix2 0 k) = I.bp k
  x5a : ∀ (n : ℕ) (k : Fin 768) (d : Fin 128), (X n).x5 (ix2 k ⟨d.val, by omega⟩) = I.l1.wsa k d
  x5b : ∀ (n : ℕ) (k : Fin 768) (d : Fin 128), (X n).x5 (ix2 k ⟨128 + d.val, by omega⟩) = I.l1.wsb k d
  x6 : ∀ (n : ℕ) (k d : Fin 128), (X n).x6 (ix2 k d) = I.l1.wsi k d
  x7 : ∀ (n : ℕ) (k d : Fin 128), (X n).x7 (ix2 k d) = I.l1.wsj k d
  x8 : ∀ (n : ℕ) (d : Fin 128), (X n).x8 (ix2 0 d) = I.l1.bs d
  x9 : ∀ (n : ℕ) (d : Fin 128), (X n).x9 (ix2 0 d) = I.l1.alpha d
  x10 : ∀ (n : ℕ) (d : Fin 128), (X n).x10 (ix2 0 d) = I.l1.wai d
  x11 : ∀ n : ℕ, (X n).x11 (ix2 0 0) = I.l1.bai
  x12 : ∀ (n : ℕ) (d : Fin 128), (X n).x12 (ix2 0 d) = I.l1.waj d
  x13 : ∀ n : ℕ, (X n).x13 (ix2 0 0) = I.l1.baj
  x14 : ∀ (n : ℕ) (k d : Fin 128), (X n).x14 (ix2 k d) = I.l1.we k d
  x15 : ∀ (n : ℕ) (d : Fin 128), (X n).x15 (ix2 0 d) = I.l1.be d
  x16 : ∀ (n : ℕ) (k d : Fin 128), (X n).x16 (ix2 k d) = I.l1.wnx k d
  x17 : ∀ (n : ℕ) (k d : Fin 128), (X n).x17 (ix2 k d) = I.l1.wni k d
  x18 : ∀ (n : ℕ) (k d : Fin 128), (X n).x18 (ix2 k d) = I.l1.wno k d
  x19 : ∀ (n : ℕ) (d : Fin 128), (X n).x19 (ix2 0 d) = I.l1.bn d
  x20 : ∀ (n : ℕ) (k d : Fin 128), (X n).x20 (ix2 k d) = I.l2.wsi k d
  x21 : ∀ (n : ℕ) (k d : Fin 128), (X n).x21 (ix2 k d) = I.l2.wsj k d
  x22 : ∀ (n : ℕ) (d : Fin 128), (X n).x22 (ix2 0 d) = I.l2.bs d
  x23 : ∀ (n : ℕ) (d : Fin 128), (X n).x23 (ix2 0 d) = I.l2.alpha d
  x24a : ∀ (n : ℕ) (k d : Fin 128), (X n).x24 (ix2 k ⟨d.val, by omega⟩) = I.l2.wsa k d
  x24b : ∀ (n : ℕ) (k d : Fin 128), (X n).x24 (ix2 k ⟨128 + d.val, by omega⟩) = I.l2.wsb k d
  x25 : ∀ (n : ℕ) (d : Fin 128), (X n).x25 (ix2 0 d) = I.l2.wai d
  x26 : ∀ n : ℕ, (X n).x26 (ix2 0 0) = I.l2.bai
  x27 : ∀ (n : ℕ) (d : Fin 128), (X n).x27 (ix2 0 d) = I.l2.waj d
  x28 : ∀ n : ℕ, (X n).x28 (ix2 0 0) = I.l2.baj
  x29 : ∀ (n : ℕ) (k d : Fin 128), (X n).x29 (ix2 k d) = I.l2.wnx k d
  x30 : ∀ (n : ℕ) (k d : Fin 128), (X n).x30 (ix2 k d) = I.l2.wni k d
  x31 : ∀ (n : ℕ) (k d : Fin 128), (X n).x31 (ix2 k d) = I.l2.wno k d
  x32 : ∀ (n : ℕ) (d : Fin 128), (X n).x32 (ix2 0 d) = I.l2.bn d
  x33 : ∀ (n : ℕ) (k d : Fin 128), (X n).x33 (ix2 k d) = I.l2.we k d
  x34 : ∀ (n : ℕ) (d : Fin 128), (X n).x34 (ix2 0 d) = I.l2.be d
  x35 : ∀ (n : ℕ) (k : Fin 128) (o : Fin 16), (X n).x35 (ix2 k o) = I.wd0 k o
  x36 : ∀ (n : ℕ) (k : Fin 128) (o : Fin 16), (X n).x36 (ix2 k o) = I.wd1 k o
  x37 : ∀ (n : ℕ) (k : Fin 128) (o : Fin 16), (X n).x37 (ix2 k o) = I.wd2 k o
  x38 : ∀ (n : ℕ) (k : Fin 128) (o : Fin 16), (X n).x38 (ix2 k o) = I.wd3 k o
  x39 : ∀ (n : ℕ) (o : Fin 16), (X n).x39 (ix2 0 o) = I.bd o

end Cert.KernelIdeal.Fused
-- ==== Proof.KernelIdeal.Blocks.lean ====
/- The grid's blocks are the network's inputs.

Window 0's block at point `t` is 32 rows of the edge features, the other windows' blocks are whole arrays; the arrays are
the arguments or slices, concatenations and reshapes of them. -/
module

public import proofs.«01_k».proof.Proof.KernelIdeal.Data
public import proofs.«01_k».proof.Proof.KernelIdeal.Reads
public import proofs.«01_k».proof.Proof.Shared.Inputs
public import Idealize.ShloMosaic.Lib.Pointwise
public import Idealize.ShloMosaic.Lib.Pipeline.ValueKit

@[expose] public section

set_option maxRecDepth 16384
set_option maxHeartbeats 4000000

noncomputable section

namespace Cert.KernelIdeal.Fused
open Idealize.ShloMosaic Idealize.ShloMosaic.TcCoe Cert.KernelIdeal Cert.KernelIdeal.Gen Cert.Fused Cert.Fused.Net

variable (m : (ℓ : Loc nD τ sig) → Buf (Elt Ideal) ℓ) (c : Dev nD)

/-- The argument arrays on a device. -/
def arrays : Arrays where
  x0 := m ((c : Thread nD τ).loc main_arg0)
  x1 := m ((c : Thread nD τ).loc main_arg1)
  x2 := m ((c : Thread nD τ).loc main_arg2)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)
  x19 := m ((c : Thread nD τ).loc main_arg19)
  x20 := m ((c : Thread nD τ).loc main_arg20)
  x21 := m ((c : Thread nD τ).loc main_arg21)
  x22 := m ((c : Thread nD τ).loc main_arg22)
  x23 := m ((c : Thread nD τ).loc main_arg23)
  x24 := m ((c : Thread nD τ).loc main_arg24)
  x25 := m ((c : Thread nD τ).loc main_arg25)
  x26 := m ((c : Thread nD τ).loc main_arg26)
  x27 := m ((c : Thread nD τ).loc main_arg27)
  x28 := m ((c : Thread nD τ).loc main_arg28)
  x29 := m ((c : Thread nD τ).loc main_arg29)

/-- Window 0 steps through the rows and stays at the last block, -/
theorem index_rows : ∀ t : Fin cfg0.N, win0_0.index t = ![min t.val 3, 0, 0] :=
  (by decide +kernel : ∀ t : Fin grid0.N, _)
/-- every other window stays put. -/
theorem index_whole : ∀ t : Fin cfg0.N,
      win0_1.index t = ![0, 0] ∧ win0_2.index t = ![0, 0] ∧ win0_3.index t = ![0, 0] ∧ win0_4.index t = ![0, 0] ∧
      win0_5.index t = ![0, 0] ∧ win0_6.index t = ![0, 0] ∧ win0_7.index t = ![0, 0] ∧ win0_8.index t = ![0, 0] ∧
      win0_9.index t = ![0, 0] ∧ win0_10.index t = ![0, 0] ∧ win0_11.index t = ![0, 0] ∧ win0_12.index t = ![0, 0] ∧
      win0_13.index t = ![0, 0] ∧ win0_14.index t = ![0, 0] ∧ win0_15.index t = ![0, 0] ∧ win0_16.index t = ![0, 0] ∧
      win0_17.index t = ![0, 0] ∧ win0_18.index t = ![0, 0] ∧ win0_19.index t = ![0, 0] ∧ win0_20.index t = ![0, 0] ∧
      win0_21.index t = ![0, 0] ∧ win0_22.index t = ![0, 0] ∧ win0_23.index t = ![0, 0] ∧ win0_24.index t = ![0, 0] ∧
      win0_25.index t = ![0, 0] ∧ win0_26.index t = ![0, 0] ∧ win0_27.index t = ![0, 0] ∧ win0_28.index t = ![0, 0] ∧
      win0_29.index t = ![0, 0] ∧ win0_30.index t = ![0, 0] ∧ win0_31.index t = ![0, 0] ∧ win0_32.index t = ![0, 0] ∧
      win0_33.index t = ![0, 0] ∧ win0_34.index t = ![0, 0] ∧ win0_35.index t = ![0, 0] ∧ win0_36.index t = ![0, 0] ∧
      win0_37.index t = ![0, 0] ∧ win0_38.index t = ![0, 0] := by
  intro t
  repeat' apply And.intro
  all_goals rfl

/-- The blocks of the windows that stay put, as arrays. -/
structure Whole (t : Fin cfg0.N) : Prop where
  b1 : iblk m c 1 t = V m c main_arg0
  b2 : iblk m c 2 t = V m c main_arg4
  b3 : iblk m c 3 t = V m c main_v9
  b4 : iblk m c 4 t = V m c main_v10
  b5 : iblk m c 5 t = V m c main_v0
  b6 : iblk m c 6 t = V m c main_v1
  b7 : iblk m c 7 t = V m c main_v11
  b8 : iblk m c 8 t = V m c main_v12
  b9 : iblk m c 9 t = V m c main_v13
  b10 : iblk m c 10 t = V m c main_v14
  b11 : iblk m c 11 t = V m c main_v15
  b12 : iblk m c 12 t = V m c main_v16
  b13 : iblk m c 13 t = V m c main_arg15
  b14 : iblk m c 14 t = V m c main_v17
  b15 : iblk m c 15 t = V m c main_v18
  b16 : iblk m c 16 t = V m c main_v19
  b17 : iblk m c 17 t = V m c main_v20
  b18 : iblk m c 18 t = V m c main_v21
  b19 : iblk m c 19 t = V m c main_v4
  b20 : iblk m c 20 t = V m c main_v5
  b21 : iblk m c 21 t = V m c main_v22
  b22 : iblk m c 22 t = V m c main_v23
  b23 : iblk m c 23 t = V m c main_v24
  b24 : iblk m c 24 t = V m c main_v25
  b25 : iblk m c 25 t = V m c main_v26
  b26 : iblk m c 26 t = V m c main_v27
  b27 : iblk m c 27 t = V m c main_v28
  b28 : iblk m c 28 t = V m c main_v29
  b29 : iblk m c 29 t = V m c main_v30
  b30 : iblk m c 30 t = V m c main_v31
  b31 : iblk m c 31 t = V m c main_v32
  b32 : iblk m c 32 t = V m c main_arg26
  b33 : iblk m c 33 t = V m c main_v33
  b34 : iblk m c 34 t = V m c main_v34
  b35 : iblk m c 35 t = V m c main_v35
  b36 : iblk m c 36 t = V m c main_v36
  b37 : iblk m c 37 t = V m c main_v37
  b38 : iblk m c 38 t = V m c main_v38

theorem whole (t : Fin cfg0.N) : Whole m c t := by
  constructor <;> (funext y; blk_ext [iblk, index_whole t])

/-- Window 0's block. -/
theorem rows_block (t : Fin cfg0.N) (r : Fin 32) (j : Fin 128) (l : Fin 64) :
    iblk m c 0 t (ix3 r j l) = V m c main_v8 (ix3 ⟨32 * min t.val 3 + r.val, by omega⟩ j l) := by
  blk_ext [iblk, index_rows t]

/-- The edge features by pairs. -/
theorem edges_array (i j : Fin 128) (l : Fin 64) :
    V m c main_v8 (ix3 i j l) = m ((c : Thread nD τ).loc main_arg2) (ix2 ⟨i.val * 128 + j.val, by omega⟩ l) := by
  simp only [V, V0, hostOps0, List.flatten_cons, List.flatten_nil, List.append_nil]
  after_results
  pointwise

/-- The blocks of any number are those of a point. -/
theorem insSeq_point (n : ℕ) : ∃ t : Fin cfg0.N, insSeq m c n = insAt m c t := by
  unfold insSeq
  split_ifs
  · exact ⟨_, rfl⟩
  · exact ⟨_, rfl⟩

/-- The blocks hold the network's inputs. -/
theorem reads : Reads (insSeq m c) (inputsOf (arrays m c)) := by
  constructor
  case x1 =>
    intro n r j l
    have hr : (⟨32 * min n.val 3 + r.val, by omega⟩ : Fin 128) = row n r := by
      revert n r; decide
    have hn : n.val < cfg0.N := by rw [show cfg0.N = 12 from N_0]; omega
    rw [show insSeq m c n.val = insAt m c ⟨n.val, hn⟩ from dif_pos hn, ← hr]
    exact (rows_block m c ⟨n.val, hn⟩ r j l).trans (edges_array m c _ j l)
  all_goals
    intro n
    obtain ⟨t, ht⟩ := insSeq_point m c n
    have w := whole m c t
    rw [ht]
    intros
    simp only [insAt, inputsOf, layerOf, arrays,
        w.b1, w.b2, w.b3, w.b4, w.b5, w.b6, w.b7, w.b8, w.b9, w.b10, w.b11, w.b12, w.b13, w.b14, w.b15, w.b16, w.b17,
        w.b18, w.b19, w.b20, w.b21, w.b22, w.b23, w.b24, w.b25, w.b26, w.b27, w.b28, w.b29, w.b30, w.b31, w.b32,
        w.b33, w.b34, w.b35, w.b36, w.b37, w.b38]
    simp only [V, V0, hostOps0, List.flatten_cons, List.flatten_nil, List.append_nil]
    after_results
    try pointwise

end Cert.KernelIdeal.Fused
-- ==== Proof.KernelIdeal.Layer1.lean ====
/- The kernel's first layer: what its scratch arrays hold is the network's first layer. -/
module

public import proofs.«01_k».proof.Proof.KernelIdeal.Contents
public import proofs.«01_k».proof.Proof.KernelIdeal.Reads

@[expose] public section

set_option maxRecDepth 16384

noncomputable section

namespace Cert.KernelIdeal.Fused
open Idealize.ShloMosaic Cert.KernelIdeal Cert.KernelIdeal.Gen Cert.Fused Cert.Fused.Net

variable {X : ℕ → Ins Ideal} {I : Inputs} (h : Reads X I)

/-- A row of a block, as a row of the flattened block and back. -/
theorem flat_div (r : Fin 32) (j : Fin 128) : (r.val * 128 + j.val) / 128 = r.val := by omega
theorem flat_mod (r : Fin 32) (j : Fin 128) : (r.val * 128 + j.val) % 128 = j.val := by omega

include h

/-- The senders' projection of the edges. -/
theorem P_eq (i j d : Fin 128) : P X (ix3 i j d) = ∑ k, e0 I i j k * I.l1.wsa k d :=
  glueRows3_eq _ (fun i j d => ∑ k, e0 I i j k * I.l1.wsa k d) (fun k r j d => by
    pointwise [k0_pay2, k0_pay1]
    simp only [flat_div, flat_mod, h.x1, h.x3, h.x4, h.x5a]
    rfl) i j d

/-- The receivers', with the pair reversed. -/
theorem QT_eq (i j d : Fin 128) : QT X (ix3 i j d) = ∑ k, e0 I j i k * I.l1.wsb k d :=
  glueCols3_eq _ (fun i j d => ∑ k, e0 I j i k * I.l1.wsb k d) (fun k r i d => by
    pointwise [k0_pay3, k0_pay1]
    simp only [flat_div, flat_mod, h.x1, h.x3, h.x4, h.x5b]
    rfl) i j d

/-- The nodes' two projections. -/
theorem XI1_eq (i d : Fin 128) : XI1 X (ix2 i d) = (∑ k, I.x i k * I.l1.wsi k d) + I.l1.bs d := by
  pointwise [XI1, k0_pay4]
  simp only [h.x2, h.x6, h.x8]
theorem XJ1_eq (j d : Fin 128) : XJ1 X (ix2 j d) = ∑ k, I.x j k * I.l1.wsj k d := by
  pointwise [XJ1, k0_pay5]
  simp only [h.x2, h.x7]

/-- The first layer's rectified stack, block by block. -/
theorem T1_eq (k : Fin 4) (r : Fin 32) (j d : Fin 128) : T1 X k.val (ix3 r j d) = t I.l1 I.x (e0 I) (row k r) j d := by
  pointwise [T1, k0_pay10]
  simp only [rows3_at, rows2_at, P_eq h, QT_eq h, XI1_eq h, XJ1_eq h, h.x9]
  rfl

/-- As a matrix. -/
theorem T1m_eq (k : Fin 4) (r : Fin 32) (j d : Fin 128) :
    T1m X k.val (ix2 ⟨r.val * 128 + j.val, by omega⟩ d) = t I.l1 I.x (e0 I) (row k r) j d := by
  rw [← T1_eq h]
  unfold T1m k0_pay11 T1
  generalize k0_pay10 (F := Ideal) _ _ _ _ _ = y
  pointwise

/-- The attention on the senders before its logistic. -/
theorem A1_eq (k : Fin 4) (r : Fin 32) (j : Fin 128) :
    A1 X k.val (ix3 r j 0) = (∑ d, t I.l1 I.x (e0 I) (row k r) j d * I.l1.wai d) + I.l1.bai := by
  simp only [← T1_eq h]
  unfold A1 T1 k0_pay12
  generalize k0_pay10 (F := Ideal) _ _ _ _ _ = y
  pointwise
  simp only [h.x10, h.x11]

/-- The features weighted for the other attention. -/
theorem W1_eq (k : Fin 4) (r : Fin 32) (j d : Fin 128) :
    W1 X k.val (ix3 r j d) = t I.l1 I.x (e0 I) (row k r) j d * I.l1.waj d := by
  simp only [← T1_eq h]
  unfold W1 T1 k0_pay13
  generalize k0_pay10 (F := Ideal) _ _ _ _ _ = y
  pointwise
  simp only [h.x12]

/-- The sums over receivers. -/
theorem INC1_eq (i d : Fin 128) : INC1 X (ix2 i d) = inc I.l1 I.x (e0 I) i d :=
  glueRows2_eq _ (fun i d => inc I.l1 I.x (e0 I) i d) (fun k r d => by
    pointwise [k0_pay14]
    simp only [T1_eq h, A1_eq h]
    rfl) i d

/-- One block's part of the sums over senders. -/
theorem part1_eq (n : ℕ) (k : Fin 4) (j d : Fin 128) : k0_pay15 (T1 X k.val) (W1 X k.val) (X n).x13 (ix2 j d)
    = ∑ r, t I.l1 I.x (e0 I) (row k r) j d * attJ I.l1 I.x (e0 I) (row k r) j := by
  pointwise [k0_pay15]
  simp only [T1_eq h, W1_eq h, h.x13]
  rfl

/-- The sums over senders. -/
theorem OUTG1_eq (j d : Fin 128) : OUTG1 X 3 (ix2 j d) = outg I.l1 I.x (e0 I) j d := by
  unfold outg
  rw [sum_rows, ← part1_eq h 4, ← part1_eq h 5, ← part1_eq h 6, ← part1_eq h 7]
  pointwise [OUTG1, k0_pay17, k0_pay16]

/-- The second layer's projections of the new edges. -/
theorem P2_eq (i j d : Fin 128) : P2 X (ix3 i j d) = ∑ k, e1 I i j k * I.l2.wsa k d :=
  glueRows3_eq _ (fun i j d => ∑ k, e1 I i j k * I.l2.wsa k d) (fun k r j d => by
    pointwise [k0_pay6, k0_pay20, k0_pay18]
    simp only [T1m_eq h, h.x14, h.x15, h.x24a]
    rfl) i j d
theorem Q2T_eq (i j d : Fin 128) : Q2T X (ix3 i j d) = ∑ k, e1 I j i k * I.l2.wsb k d :=
  glueCols3_eq _ (fun i j d => ∑ k, e1 I j i k * I.l2.wsb k d) (fun k r i d => by
    pointwise [k0_pay7, k0_pay19, k0_pay18]
    simp only [T1m_eq h, h.x14, h.x15, h.x24b]
    rfl) i j d

/-- The nodes after the first layer, as the body computes them. -/
theorem nodes1_eq (i d : Fin 128) :
    k0_pay21 (X 8).x2 (X 8).x16 (INC1 X) (X 8).x17 (OUTG1 X 3) (X 8).x18 (X 8).x19 (ix2 i d) = x1 I i d := by
  pointwise [k0_pay21]
  simp only [INC1_eq h, OUTG1_eq h, h.x2, h.x16, h.x17, h.x18, h.x19]
  rfl

end Cert.KernelIdeal.Fused
-- ==== Proof.KernelIdeal.Layer2.lean ====
/- The kernel's second layer: what its scratch arrays hold at the end is the network's second layer. -/
module

public import proofs.«01_k».proof.Proof.KernelIdeal.Layer1

@[expose] public section

set_option maxRecDepth 16384

noncomputable section

namespace Cert.KernelIdeal.Fused
open Idealize.ShloMosaic Cert.KernelIdeal Cert.KernelIdeal.Gen Cert.Fused Cert.Fused.Net

/-- A 0/1 mask as an extended real. -/
theorem mask_val (b : Bool) : FloatOps.sitofp (F := Ideal) .f32 (BitVec.setWidth 32 (BitVec.ofBool b)) = if b then (1 : EReal) else 0 := by
  have e : ∀ w : BitVec 32, FloatOps.sitofp (F := Ideal) .f32 w = ((w.toInt : ℝ) : EReal) := fun _ => rfl
  rw [e]
  cases b <;> simp

/-- Comparing two small numbers as words. -/
theorem cmpi_eq_small (a b : Fin 128) : IntOp.cmpi .eq (BitVec.ofNat 32 a.val) (BitVec.ofNat 32 b.val)
    = BitVec.ofBool (decide (a = b)) := by
  have e : (BitVec.ofNat 32 a.val = BitVec.ofNat 32 b.val) ↔ a = b :=
    ⟨fun e => Fin.ext (by
      have := congrArg BitVec.toNat e
      simp only [BitVec.toNat_ofNat] at this
      omega), fun e => by rw [e]⟩
  have hb : (BitVec.ofNat 32 a.val == BitVec.ofNat 32 b.val) = decide (a = b) := by
    rw [Bool.eq_iff_iff, beq_iff_eq, e, decide_eq_true_eq]
  exact congrArg BitVec.ofBool hb

/-- The row or column `127 - i`. -/
def mirror (i : Fin 128) : Fin 128 := ⟨127 - i.val, by omega⟩

/-- The antidiagonal's column at row `r` of block `k`, as the body computes it. -/
theorem anti_col (k : Fin 4) (r : Fin 32) :
    IntOp.subi 127#32 (IntOp.addi (Scalar.muli (Scalar.subi (BitVec.ofNat 32 (k.val + 8)) 8#32) 32#32) (BitVec.ofNat 32 r.val))
      = BitVec.ofNat 32 (mirror (row k r)).val := by
  revert k r
  decide

variable {X : ℕ → Ins Ideal} {I : Inputs} (h : Reads X I)

include h

/-- The nodes after the first layer -/
theorem X1_eq (i d : Fin 128) : X1 X (ix2 i d) = x1 I i d := by
  rw [← nodes1_eq h]
  pointwise [X1, k0_pay22]

/-- and their two projections. -/
theorem XI2_eq (i d : Fin 128) : XI2 X (ix2 i d) = (∑ k, x1 I i k * I.l2.wsi k d) + I.l2.bs d := by
  simp only [← nodes1_eq h]
  pointwise [XI2, k0_pay28, k0_pay23]
  simp only [h.x20, h.x22]
theorem XJ2_eq (j d : Fin 128) : XJ2 X (ix2 j d) = ∑ k, x1 I j k * I.l2.wsj k d := by
  simp only [← nodes1_eq h]
  pointwise [XJ2, k0_pay29]
  simp only [h.x21]

/-- The second layer's rectified stack, block by block. -/
theorem T2_eq (k : Fin 4) (r : Fin 32) (j d : Fin 128) : T2 X k.val (ix3 r j d) = t I.l2 (x1 I) (e1 I) (row k r) j d := by
  pointwise [T2, k0_pay30]
  simp only [rows3_at, rows2_at, P2_eq h, Q2T_eq h, XI2_eq h, XJ2_eq h, h.x23]
  rfl

/-- The attention on the senders before its logistic. -/
theorem A2_eq (k : Fin 4) (r : Fin 32) (j : Fin 128) :
    A2 X k.val (ix3 r j 0) = (∑ d, t I.l2 (x1 I) (e1 I) (row k r) j d * I.l2.wai d) + I.l2.bai := by
  simp only [← T2_eq h]
  unfold A2 T2 k0_pay31
  generalize k0_pay30 (F := Ideal) _ _ _ _ _ = y
  pointwise
  simp only [h.x25, h.x26]

/-- The sums over receivers. -/
theorem INC2_eq (i d : Fin 128) : INC2 X (ix2 i d) = inc I.l2 (x1 I) (e1 I) i d :=
  glueRows2_eq _ (fun i d => inc I.l2 (x1 I) (e1 I) i d) (fun k r d => by
    pointwise [k0_pay32]
    simp only [T2_eq h, A2_eq h]
    rfl) i d

/-- One block's part of the sums over senders. -/
theorem part2_eq (n : ℕ) (k : Fin 4) (j d : Fin 128) : k0_pay33 (T2 X k.val) (X n).x27 (X n).x28 (ix2 j d)
    = ∑ r, t I.l2 (x1 I) (e1 I) (row k r) j d * attJ I.l2 (x1 I) (e1 I) (row k r) j := by
  pointwise [k0_pay33]
  simp only [T2_eq h, h.x27, h.x28]
  rfl

/-- The sums over senders. -/
theorem OUTG2_eq (j d : Fin 128) : OUTG2 X 3 (ix2 j d) = outg I.l2 (x1 I) (e1 I) j d := by
  unfold outg
  rw [sum_rows, ← part2_eq h 8, ← part2_eq h 9, ← part2_eq h 10, ← part2_eq h 11]
  pointwise [OUTG2, k0_pay36, k0_pay34]

/-- The features of sender 0. -/
theorem ROW0_eq (j d : Fin 128) : ROW0 X (ix2 j d) = t I.l2 (x1 I) (e1 I) 0 j d := by
  have h0 := T2_eq h 0 0 j d
  pointwise [ROW0, k0_pay35]
  exact h0

/-- The features on the antidiagonal. -/
theorem ANTI_eq (i d : Fin 128) : ANTI X (ix2 i d) = t I.l2 (x1 I) (e1 I) i ⟨127 - i.val, by omega⟩ d :=
  glueRows2_eq _ (fun i d => t I.l2 (x1 I) (e1 I) i ⟨127 - i.val, by omega⟩ d) (fun k r d => by
    pointwise [k0_pay8, k0_pay37]
    simp only [anti_col, cmpi_eq_small, mask_val, decide_eq_true_eq, mul_ite, mul_one, mul_zero, Finset.sum_ite_eq',
      Finset.sum_ite_eq, Finset.mem_univ, if_true, T2_eq h]
    rfl) i d

/-- The nodes after the second layer, as the body computes them. -/
theorem nodes2_eq (n : ℕ) (i d : Fin 128) :
    k0_pay24 (X1 X) (X n).x29 (INC2 X) (X n).x30 (OUTG2 X 3) (X n).x31 (X n).x32 (ix2 i d) = x2 I i d := by
  pointwise [k0_pay24]
  simp only [X1_eq h, INC2_eq h, OUTG2_eq h, h.x29, h.x30, h.x31, h.x32]
  rfl

/-- The edges out of node 0, -/
theorem edges0_eq (n : ℕ) (j d : Fin 128) : k0_pay25 (ROW0 X) (X n).x33 (X n).x34 (ix2 j d) = e2 I 0 j d := by
  pointwise [k0_pay25]
  simp only [ROW0_eq h, h.x33, h.x34]
  rfl

end Cert.KernelIdeal.Fused
-- ==== Proof.KernelIdeal.Readout.lean ====
/- The kernel's read-out is the network's. -/
module

public import proofs.«01_k».proof.Proof.KernelIdeal.Layer2
public import proofs.«01_k».proof.Proof.Shared.Finite

@[expose] public section

set_option maxRecDepth 16384

noncomputable section

namespace Cert.KernelIdeal.Fused
open Idealize.ShloMosaic Cert.KernelIdeal Cert.KernelIdeal.Gen Cert.Fused Cert.Fused.Net

/-- The masks of the read-out keep the first 127 -/
theorem slt_127 : ∀ k : Fin 128, IntOp.cmpi .slt (BitVec.ofNat 32 k.val) 127#32 = BitVec.ofBool (decide (k.val < 127)) := by
  decide
/-- and the first 126 positions. -/
theorem slt_126 : ∀ k : Fin 128, IntOp.cmpi .slt (BitVec.ofNat 32 k.val) 126#32 = BitVec.ofBool (decide (k.val < 126)) := by
  decide

variable {X : ℕ → Ins Ideal} {I : Inputs} (h : Reads X I)

include h

/-- The edges on the antidiagonal and node 0's own edge, summed. -/
theorem pool3_eq (n : ℕ) (d : Fin 128) :
    k0_pay26 (k0_pay25 (ROW0 X) (X n).x33 (X n).x34) (ANTI X) (X n).x33 (constant S128x128 .f32 0x00000000#32) (X n).x34
      (ix2 0 d) = pool3 I d := by
  have hr := edges0_eq h n
  generalize k0_pay25 (ROW0 X) (X n).x33 (X n).x34 = R at hr ⊢
  pointwise [k0_pay26]
  simp only [hr, ANTI_eq h, h.x33, h.x34, slt_126, mask_val, decide_eq_true_eq]
  unfold pool3
  congr 1
  exact sum_mask (by omega) fun i : Fin 128 => e2 I i ⟨127 - i.val, by omega⟩ d

/-- The other three pools, read out. -/
theorem partLogits_eq (hf : FiniteInputs I) (n : ℕ) (o : Fin 16) :
    k0_pay27 (k0_pay24 (X1 X) (X n).x29 (INC2 X) (X n).x30 (OUTG2 X 3) (X n).x31 (X n).x32)
      (k0_pay25 (ROW0 X) (X n).x33 (X n).x34) (X n).x35 (X n).x36 (X n).x37 (ix2 0 o)
      = (∑ d, pool0 I d * I.wd0 d o) + (∑ d, pool1 I d * I.wd1 d o) + (∑ d, pool2 I d * I.wd2 d o) := by
  have hr := edges0_eq h n
  have hn := nodes2_eq h n
  generalize k0_pay25 (ROW0 X) (X n).x33 (X n).x34 = R at hr ⊢
  generalize k0_pay24 (X1 X) (X n).x29 (INC2 X) (X n).x30 (OUTG2 X 3) (X n).x31 (X n).x32 = N at hn ⊢
  pointwise [k0_pay27]
  simp only [hr, hn, h.x35, h.x36, h.x37, slt_127, mask_val, decide_eq_true_eq, pool0_eq, pool1_eq hf]
  congr 1
  refine Finset.sum_congr rfl fun d _ => ?_
  congr 1
  exact sum_mask (by omega) fun i : Fin 128 => e2 I 0 i d

/-- What the last grid point stores is the network's result. -/
theorem result_eq (hf : FiniteInputs I) (o : Fin 16) : result X (ix2 0 o) = out I o := by
  have h3 := pool3_eq h 11
  have hp := partLogits_eq h hf 11
  show k0_pay9 (k0_pay26 (k0_pay25 (ROW0 X) (X 11).x33 (X 11).x34) (ANTI X) (X 11).x33 (constant S128x128 .f32 0x00000000#32) (X 11).x34)
    (k0_pay27 (k0_pay24 (X1 X) (X 11).x29 (INC2 X) (X 11).x30 (OUTG2 X 3) (X 11).x31 (X 11).x32)
      (k0_pay25 (ROW0 X) (X 11).x33 (X 11).x34) (X 11).x35 (X 11).x36 (X 11).x37) (X 11).x38 (X 11).x39 (ix2 0 o) = _
  generalize k0_pay26 (F := Ideal) _ _ _ _ _ = P3 at h3 ⊢
  generalize k0_pay27 (F := Ideal) _ _ _ _ _ = P012 at hp ⊢
  pointwise [k0_pay9]
  simp only [h3, hp, h.x38, h.x39]
  rfl

end Cert.KernelIdeal.Fused
-- ==== Proof.Reference.Layer1.lean ====
/- The first layer of the reference, stage by stage, as the network's equations. -/
module

public import proofs.«01_k».proof.Proof.Reference.Run
public import proofs.«01_k».proof.Proof.Shared.Cut

@[expose] public section

set_option maxRecDepth 16384

noncomputable section

namespace Cert.ReferenceIdeal.Fused
open Idealize.ShloMosaic Cert.ReferenceIdeal Cert.ReferenceIdeal.Gen Cert.ReferenceIdeal.Read Cert.Fused.Net

variable (A : Arrays)

/-- The prepared edge features. -/
theorem e0_eq (i j : Fin 128) (k : Fin 768) : val_main_v5 (F := Ideal) A.x2 A.x4 A.x5 (ix3 i j k) = e0 (inputsOf A) i j k := by
  pointwise [val_main_v0, val_main_v1, val_main_v2, val_main_v3, val_main_v4, val_main_v5]
  rfl

/-- The rectified stack of layer 1. -/
theorem t1_eq (i j d : Fin 128) : val_main_v21 (F := Ideal) A.x0 A.x2 A.x4 A.x5 A.x6 A.x7 A.x8 (ix3 i j d)
    = t (inputsOf A).l1 (inputsOf A).x (e0 (inputsOf A)) i j d := by
  have h : _ = s (inputsOf A).l1 (inputsOf A).x (e0 (inputsOf A)) i j d := stack_eq (by norm_num) A.x6 _ _ _ _ _ _ _ _ _ _ (inputsOf A).x (e0 (inputsOf A)) i j d
  pointwise [val_main_v6, val_main_v7, val_main_v8, val_main_v9, val_main_v10, val_main_v11, val_main_v12, val_main_v13, val_main_v14, val_main_v15, val_main_cst, val_main_v16, val_main_v17, val_main_v18, val_main_v19, val_main_v20, val_main_v21]
  simp only [e0_eq A]
  unfold t prelu
  rw [← h]
  rfl

/-- The attention on the row's node in layer 1. -/
theorem attI1_eq (i j : Fin 128) : val_main_v31 (F := Ideal) A.x0 A.x2 A.x4 A.x5 A.x6 A.x7 A.x8 A.x9 A.x10 (ix3 i j 0)
    = attI (inputsOf A).l1 (inputsOf A).x (e0 (inputsOf A)) i j := by
  pointwise [val_main_v22, val_main_v23, val_main_v24, val_main_v25, val_main_v26, val_main_v27, val_main_cst_0, val_main_v28, val_main_v29, val_main_cst_1, val_main_v30, val_main_v31]
  simp only [t1_eq A]
  rfl

/-- The attention on the column's node in layer 1. -/
theorem attJ1_eq (i j : Fin 128) : val_main_v41 (F := Ideal) A.x0 A.x2 A.x4 A.x5 A.x6 A.x7 A.x8 A.x11 A.x12 (ix3 i j 0)
    = attJ (inputsOf A).l1 (inputsOf A).x (e0 (inputsOf A)) i j := by
  pointwise [val_main_v32, val_main_v33, val_main_v34, val_main_v35, val_main_v36, val_main_v37, val_main_cst_2, val_main_v38, val_main_v39, val_main_cst_3, val_main_v40, val_main_v41]
  simp only [t1_eq A]
  rfl

/-- The attended sum `inc` of layer 1, the mask being all ones. -/
theorem inc1_eq (ha : ∀ i, A.x1 i = 1) (i d : Fin 128) : val_main_v47 (F := Ideal) A.x0 A.x1 A.x2 A.x4 A.x5 A.x6 A.x7 A.x8 A.x9 A.x10 (ix2 i d)
    = inc (inputsOf A).l1 (inputsOf A).x (e0 (inputsOf A)) i d := by
  pointwise [val_main_v42, val_main_v43, val_main_v44, val_main_v45, val_main_v46, val_main_cst_4, val_main_v47]
  simp only [t1_eq A, attI1_eq A, ha, mul_one]
  rfl

/-- The attended sum `outg` of layer 1, the mask being all ones. -/
theorem outg1_eq (ha : ∀ i, A.x1 i = 1) (i d : Fin 128) : val_main_v52 (F := Ideal) A.x0 A.x1 A.x2 A.x4 A.x5 A.x6 A.x7 A.x8 A.x11 A.x12 (ix2 i d)
    = outg (inputsOf A).l1 (inputsOf A).x (e0 (inputsOf A)) i d := by
  pointwise [val_main_v48, val_main_v49, val_main_v50, val_main_v51, val_main_cst_5, val_main_v52, val_main_v42]
  simp only [t1_eq A, attJ1_eq A, ha, mul_one]
  rfl

/-- The node features after layer 1. -/
theorem x1_eq (ha : ∀ i, A.x1 i = 1) (i d : Fin 128) : val_main_v58 (F := Ideal) A.x0 A.x1 A.x2 A.x4 A.x5 A.x6 A.x7 A.x8 A.x9 A.x10 A.x11 A.x12 A.x13 A.x14 (ix2 i d)
    = x1 (inputsOf A) i d := by
  have h : _ = nodes (inputsOf A).l1 (inputsOf A).x (e0 (inputsOf A)) i d :=
    glued_eq (by norm_num) A.x6 _ _ _ _ _ _ _ _ _ _ (inputsOf A).x (e0 (inputsOf A)) i d _ _ rfl rfl
  pointwise [val_main_v53, val_main_v54, val_main_v55, val_main_v56, val_main_v57, val_main_call1_cst, val_main_call1_v0, val_main_v58]
  simp only [inc1_eq A ha, outg1_eq A ha]
  exact h

/-- The edge features after layer 1. -/
theorem e1_eq (i j d : Fin 128) : val_main_v63 (F := Ideal) A.x0 A.x2 A.x4 A.x5 A.x6 A.x7 A.x8 A.x15 A.x16 (ix3 i j d)
    = e1 (inputsOf A) i j d := by
  pointwise [val_main_v59, val_main_v60, val_main_v61, val_main_v62, val_main_v63]
  simp only [t1_eq A]
  rfl

end Cert.ReferenceIdeal.Fused
-- ==== Proof.Reference.Layer2.lean ====
/- The second layer of the reference, stage by stage, as the network's equations. -/
module

public import proofs.«01_k».proof.Proof.Reference.Layer1
public import proofs.«01_k».proof.Proof.Shared.Cut

@[expose] public section

set_option maxRecDepth 16384

noncomputable section

namespace Cert.ReferenceIdeal.Fused
open Idealize.ShloMosaic Cert.ReferenceIdeal Cert.ReferenceIdeal.Gen Cert.ReferenceIdeal.Read Cert.Fused.Net

variable (A : Arrays)

/-- The rectified stack of layer 2. -/
theorem t2_eq (ha : ∀ i, A.x1 i = 1) (i j d : Fin 128) : val_main_v79 (F := Ideal) A.x0 A.x1 A.x2 A.x4 A.x5 A.x6 A.x7 A.x8 A.x9 A.x10 A.x11 A.x12 A.x13 A.x14 A.x15 A.x16 A.x17 A.x18 A.x19 (ix3 i j d)
    = t (inputsOf A).l2 (x1 (inputsOf A)) (e1 (inputsOf A)) i j d := by
  have h : _ = s (inputsOf A).l2 (x1 (inputsOf A)) (e1 (inputsOf A)) i j d := stack_eq (by norm_num) A.x17 _ _ _ _ _ _ _ _ _ _ (x1 (inputsOf A)) (e1 (inputsOf A)) i j d
  pointwise [val_main_v64, val_main_v65, val_main_v66, val_main_v67, val_main_v68, val_main_v69, val_main_v70, val_main_v71, val_main_v72, val_main_v73, val_main_cst_6, val_main_v74, val_main_v75, val_main_v76, val_main_v77, val_main_v78, val_main_v79]
  simp only [e1_eq A, x1_eq A ha]
  unfold t prelu
  rw [← h]
  rfl

/-- The attention on the row's node in layer 2. -/
theorem attI2_eq (ha : ∀ i, A.x1 i = 1) (i j : Fin 128) : val_main_v89 (F := Ideal) A.x0 A.x1 A.x2 A.x4 A.x5 A.x6 A.x7 A.x8 A.x9 A.x10 A.x11 A.x12 A.x13 A.x14 A.x15 A.x16 A.x17 A.x18 A.x19 A.x20 A.x21 (ix3 i j 0)
    = attI (inputsOf A).l2 (x1 (inputsOf A)) (e1 (inputsOf A)) i j := by
  pointwise [val_main_v80, val_main_v81, val_main_v82, val_main_v83, val_main_v84, val_main_v85, val_main_cst_7, val_main_v86, val_main_v87, val_main_cst_8, val_main_v88, val_main_v89]
  simp only [t2_eq A ha]
  rfl

/-- The attention on the column's node in layer 2. -/
theorem attJ2_eq (ha : ∀ i, A.x1 i = 1) (i j : Fin 128) : val_main_v99 (F := Ideal) A.x0 A.x1 A.x2 A.x4 A.x5 A.x6 A.x7 A.x8 A.x9 A.x10 A.x11 A.x12 A.x13 A.x14 A.x15 A.x16 A.x17 A.x18 A.x19 A.x22 A.x23 (ix3 i j 0)
    = attJ (inputsOf A).l2 (x1 (inputsOf A)) (e1 (inputsOf A)) i j := by
  pointwise [val_main_v90, val_main_v91, val_main_v92, val_main_v93, val_main_v94, val_main_v95, val_main_cst_9, val_main_v96, val_main_v97, val_main_cst_10, val_main_v98, val_main_v99]
  simp only [t2_eq A ha]
  rfl

/-- The attended sum `inc` of layer 2, the mask being all ones. -/
theorem inc2_eq (ha : ∀ i, A.x1 i = 1) (i d : Fin 128) : val_main_v105 (F := Ideal) A.x0 A.x1 A.x2 A.x4 A.x5 A.x6 A.x7 A.x8 A.x9 A.x10 A.x11 A.x12 A.x13 A.x14 A.x15 A.x16 A.x17 A.x18 A.x19 A.x20 A.x21 (ix2 i d)
    = inc (inputsOf A).l2 (x1 (inputsOf A)) (e1 (inputsOf A)) i d := by
  pointwise [val_main_v100, val_main_v101, val_main_v102, val_main_v103, val_main_v104, val_main_cst_11, val_main_v105]
  simp only [t2_eq A ha, attI2_eq A ha, ha, mul_one]
  rfl

/-- The attended sum `outg` of layer 2, the mask being all ones. -/
theorem outg2_eq (ha : ∀ i, A.x1 i = 1) (i d : Fin 128) : val_main_v110 (F := Ideal) A.x0 A.x1 A.x2 A.x4 A.x5 A.x6 A.x7 A.x8 A.x9 A.x10 A.x11 A.x12 A.x13 A.x14 A.x15 A.x16 A.x17 A.x18 A.x19 A.x22 A.x23 (ix2 i d)
    = outg (inputsOf A).l2 (x1 (inputsOf A)) (e1 (inputsOf A)) i d := by
  pointwise [val_main_v106, val_main_v107, val_main_v108, val_main_v109, val_main_cst_12, val_main_v110, val_main_v100]
  simp only [t2_eq A ha, attJ2_eq A ha, ha, mul_one]
  rfl

/-- The node features after layer 2. -/
theorem x2_eq (ha : ∀ i, A.x1 i = 1) (i d : Fin 128) : val_main_v116 (F := Ideal) A.x0 A.x1 A.x2 A.x4 A.x5 A.x6 A.x7 A.x8 A.x9 A.x10 A.x11 A.x12 A.x13 A.x14 A.x15 A.x16 A.x17 A.x18 A.x19 A.x20 A.x21 A.x22 A.x23 A.x24 A.x25 (ix2 i d)
    = x2 (inputsOf A) i d := by
  have h : _ = nodes (inputsOf A).l2 (x1 (inputsOf A)) (e1 (inputsOf A)) i d :=
    glued_eq (by norm_num) A.x17 _ _ _ _ _ _ _ _ _ _ (x1 (inputsOf A)) (e1 (inputsOf A)) i d _ _ rfl rfl
  pointwise [val_main_v111, val_main_v112, val_main_v113, val_main_v114, val_main_v115, val_main_call3_cst, val_main_call3_v0, val_main_v116]
  simp only [inc2_eq A ha, outg2_eq A ha, x1_eq A ha]
  exact h

/-- The edge features after layer 2. -/
theorem e2_eq (ha : ∀ i, A.x1 i = 1) (i j d : Fin 128) : val_main_v121 (F := Ideal) A.x0 A.x1 A.x2 A.x4 A.x5 A.x6 A.x7 A.x8 A.x9 A.x10 A.x11 A.x12 A.x13 A.x14 A.x15 A.x16 A.x17 A.x18 A.x19 A.x26 A.x27 (ix3 i j d)
    = e2 (inputsOf A) i j d := by
  pointwise [val_main_v117, val_main_v118, val_main_v119, val_main_v120, val_main_v121]
  simp only [t2_eq A ha]
  rfl

end Cert.ReferenceIdeal.Fused
-- ==== Proof.Reference.Readout.lean ====
/- The reference's read-out: the pooled parts, the logits and their softmax. -/
module

public import proofs.«01_k».proof.Proof.Reference.Layer2
public import Idealize.ShloMosaic.Lib.Routing.Ops
public import Idealize.ShloMosaic.Lib.ReduceAll

@[expose] public section

set_option maxRecDepth 16384

noncomputable section

namespace Cert.ReferenceIdeal.Fused
open Idealize.ShloMosaic Cert.ReferenceIdeal Cert.ReferenceIdeal.Gen Cert.ReferenceIdeal.Read Cert.Fused.Net

/-- The strided read takes row `127 k` of the flattened edges. -/
theorem row_eq (k : Fin 127) : val_main_call4_v5 (F := Ideal) (ix2 k 0) = BitVec.ofNat 32 (127 * k.val) := by
  pointwise [val_main_v134, val_main_c, val_main_v135, val_main_v136, val_main_c_14, val_main_v137, val_main_v138, val_main_call4_c, val_main_call4_v0, val_main_call4_v1, val_main_call4_c_0, val_main_call4_v2, val_main_call4_v3, val_main_call4_v4, val_main_call4_v5]
  revert k
  decide

/-- Every row it takes is in range. -/
theorem rows_in_range (i : S127x1.Idx) : val_main_call4_v11 (F := Ideal) i = 1#1 := by
  obtain ⟨k, rfl⟩ : ∃ k : Fin 127, i = ix2 k 0 := ⟨i 0, (eq_ix2 i).trans (congrArg (ix2 (i 0)) (Subsingleton.elim (α := Fin 1) (i 1) 0))⟩
  pointwise [val_main_call4_c_1, val_main_call4_c_2, val_main_call4_v6, val_main_call4_v7, val_main_call4_v8, val_main_call4_v9, val_main_call4_v10, val_main_call4_v11]
  rw [row_eq]
  revert k
  decide

variable (A : Arrays)

/-- The strided read at a row and a feature. -/
theorem taken_eq (k : Fin 127) (d : Fin 128) : val_main_v139 (F := Ideal) A.x0 A.x1 A.x2 A.x4 A.x5 A.x6 A.x7 A.x8 A.x9 A.x10 A.x11 A.x12 A.x13 A.x14 A.x15 A.x16 A.x17 A.x18 A.x19 A.x26 A.x27 (ix2 k d)
    = val_main_v121 (F := Ideal) A.x0 A.x1 A.x2 A.x4 A.x5 A.x6 A.x7 A.x8 A.x9 A.x10 A.x11 A.x12 A.x13 A.x14 A.x15 A.x16 A.x17 A.x18 A.x19 A.x26 A.x27 (ix3 ⟨127 * k.val / 128, by omega⟩ ⟨127 * k.val % 128, by omega⟩ d) := by
  have hm : val_main_call4_v12 (F := Ideal) (ix1 k) = 1#1 :=
    Host.reduce_andi_one _ _ _ _ _ rfl rows_in_range
  have hg := Routing.gather_row gather_S16384x128_S127x1_S127x128_1_0_n_n_0_1_1128 rfl rfl rfl rfl rfl
    (val_main_v122 (F := Ideal) A.x0 A.x1 A.x2 A.x4 A.x5 A.x6 A.x7 A.x8 A.x9 A.x10 A.x11 A.x12 A.x13 A.x14 A.x15 A.x16 A.x17 A.x18 A.x19 A.x26 A.x27) (val_main_call4_v5 (F := Ideal)) k d ⟨127 * k.val, by omega⟩ (row_eq k) (by norm_num)
  have h14 : val_main_call4_v14 (F := Ideal) (ix2 k d) = 1#1 := by
    rw [← hm]
    pointwise [val_main_call4_v14]
  rw [val_main_v139_apply, h14]
  refine hg.trans ?_
  pointwise [val_main_v122]

/-- The pooled read-out, part 0. -/
theorem pool0_eq (ha : ∀ i, A.x1 i = 1) (d : Fin 128) : val_main_v141 (F := Ideal) A.x0 A.x1 A.x2 A.x4 A.x5 A.x6 A.x7 A.x8 A.x9 A.x10 A.x11 A.x12 A.x13 A.x14 A.x15 A.x16 A.x17 A.x18 A.x19 A.x20 A.x21 A.x22 A.x23 A.x24 A.x25 A.x26 A.x27 (ix1 ⟨d.val, by omega⟩)
    = pool0 (inputsOf A) d := by
  pointwise [val_main_v122, val_main_v123, val_main_v124, val_main_v125, val_main_v126, val_main_v127, val_main_cst_13, val_main_v128, val_main_v129, val_main_v130, val_main_v131, val_main_v132, val_main_v133, val_main_v140, val_main_cst_15, val_main_v141]
  simp only [x2_eq A ha]
  rfl

/-- The pooled read-out, part 1. -/
theorem pool1_eq (ha : ∀ i, A.x1 i = 1) (d : Fin 128) : val_main_v141 (F := Ideal) A.x0 A.x1 A.x2 A.x4 A.x5 A.x6 A.x7 A.x8 A.x9 A.x10 A.x11 A.x12 A.x13 A.x14 A.x15 A.x16 A.x17 A.x18 A.x19 A.x20 A.x21 A.x22 A.x23 A.x24 A.x25 A.x26 A.x27 (ix1 ⟨128 + d.val, by omega⟩)
    = pool1 (inputsOf A) d := by
  pointwise [val_main_v122, val_main_v123, val_main_v124, val_main_v125, val_main_v126, val_main_v127, val_main_cst_13, val_main_v128, val_main_v129, val_main_v130, val_main_v131, val_main_v132, val_main_v133, val_main_v140, val_main_cst_15, val_main_v141]
  simp only [x2_eq A ha, Nat.not_lt_zero, dite_false]
  exact Finset.sum_congr rfl fun k _ => congrArg (fun r => x2 (inputsOf A) r d) (Fin.ext (Nat.add_comm 1 k.val))

/-- The pooled read-out, part 2. -/
theorem pool2_eq (ha : ∀ i, A.x1 i = 1) (d : Fin 128) : val_main_v141 (F := Ideal) A.x0 A.x1 A.x2 A.x4 A.x5 A.x6 A.x7 A.x8 A.x9 A.x10 A.x11 A.x12 A.x13 A.x14 A.x15 A.x16 A.x17 A.x18 A.x19 A.x20 A.x21 A.x22 A.x23 A.x24 A.x25 A.x26 A.x27 (ix1 ⟨256 + d.val, by omega⟩)
    = pool2 (inputsOf A) d := by
  pointwise [val_main_v122, val_main_v123, val_main_v124, val_main_v125, val_main_v126, val_main_v127, val_main_cst_13, val_main_v128, val_main_v129, val_main_v130, val_main_v131, val_main_v132, val_main_v133, val_main_v140, val_main_cst_15, val_main_v141]
  have h0 : ¬ 256 + d.val < 128 := by omega
  have h1 : ¬ 256 + d.val - 128 < 128 := by omega
  have h2 : 256 + d.val - 128 - 128 = d.val := by omega
  simp only [h0, h1, h2, d.isLt, dite_false, dite_true, e2_eq A ha]
  refine Finset.sum_congr rfl fun k _ => ?_
  have hr : (⟨k.val / 128, by omega⟩ : Fin 128) = 0 := Fin.ext (Nat.div_eq_of_lt (by omega))
  have hc : (⟨k.val % 128, by omega⟩ : Fin 128) = k.castSucc := Fin.ext (Nat.mod_eq_of_lt (by omega))
  rw [← hr, ← hc]

/-- The pooled read-out, part 3. -/
theorem pool3_eq (ha : ∀ i, A.x1 i = 1) (d : Fin 128) : val_main_v141 (F := Ideal) A.x0 A.x1 A.x2 A.x4 A.x5 A.x6 A.x7 A.x8 A.x9 A.x10 A.x11 A.x12 A.x13 A.x14 A.x15 A.x16 A.x17 A.x18 A.x19 A.x20 A.x21 A.x22 A.x23 A.x24 A.x25 A.x26 A.x27 (ix1 ⟨384 + d.val, by omega⟩)
    = pool3 (inputsOf A) d := by
  pointwise [val_main_v122, val_main_v123, val_main_v124, val_main_v125, val_main_v126, val_main_v127, val_main_cst_13, val_main_v128, val_main_v129, val_main_v130, val_main_v131, val_main_v132, val_main_v133, val_main_v140, val_main_cst_15, val_main_v141]
  have h0 : ¬ 384 + d.val < 128 := by omega
  have h1 : ¬ 384 + d.val - 128 < 128 := by omega
  have h2 : ¬ 384 + d.val - 128 - 128 < 128 := by omega
  have h3 : 384 + d.val - 128 - 128 - 128 = d.val := by omega
  simp only [h0, h1, h2, h3, dite_false, taken_eq A, e2_eq A ha]
  refine (Fin.sum_univ_succ _).trans (congrArg₂ (· + ·) rfl (Finset.sum_congr rfl fun k _ => ?_))
  have hr : (⟨127 * k.succ.val / 128, by omega⟩ : Fin 128) = k.castLE (by omega) :=
    Fin.ext (by simp only [Fin.val_succ, Fin.val_castLE]; omega)
  have hc : (⟨127 * k.succ.val % 128, by omega⟩ : Fin 128) = ⟨127 - k.val, by omega⟩ :=
    Fin.ext (by simp only [Fin.val_succ]; omega)
  rw [← hr, ← hc]

/-- The logits. -/
theorem logits_eq (ha : ∀ i, A.x1 i = 1) (o : Fin 16) : val_main_v143 (F := Ideal) A.x0 A.x1 A.x2 A.x4 A.x5 A.x6 A.x7 A.x8 A.x9 A.x10 A.x11 A.x12 A.x13 A.x14 A.x15 A.x16 A.x17 A.x18 A.x19 A.x20 A.x21 A.x22 A.x23 A.x24 A.x25 A.x26 A.x27 A.x28 A.x29 (ix1 o) = logits (inputsOf A) o := by
  pointwise [val_main_v142, val_main_v143]
  rw [sum_cut 384 128 rfl, sum_cut 256 128 rfl, sum_cut 128 128 rfl]
  simp only [pool0_eq A ha, pool1_eq A ha, pool2_eq A ha, pool3_eq A ha]
  rfl

/-- The reference's result is the network's. -/
theorem out_eq (ha : ∀ i, A.x1 i = 1) (o : Fin 16) : val_main_v153 (F := Ideal) A.x0 A.x1 A.x2 A.x4 A.x5 A.x6 A.x7 A.x8 A.x9 A.x10 A.x11 A.x12 A.x13 A.x14 A.x15 A.x16 A.x17 A.x18 A.x19 A.x20 A.x21 A.x22 A.x23 A.x24 A.x25 A.x26 A.x27 A.x28 A.x29 (ix1 o) = out (inputsOf A) o := by
  pointwise [val_main_cst_16, val_main_v144, val_main_cst_17, val_main_v145, val_main_v146, val_main_v147, val_main_v148, val_main_v149, val_main_cst_18, val_main_v150, val_main_v151, val_main_v152, val_main_v153]
  simp only [logits_eq A ha]
  rw [max_eq_right ((Finset.le_fold_max _).2 (.inl le_rfl))]
  rfl

end Cert.ReferenceIdeal.Fused
-- ==== Proof.Reference.Value.lean ====
/- What the reference leaves in its result. -/
module

public import proofs.«01_k».proof.Proof.Reference.Readout

@[expose] public section

noncomputable section

namespace Cert.ReferenceIdeal.Fused
open Idealize.ShloMosaic Idealize.ShloMosaic.TcCoe Idealize.ShloMosaic.StableHlo Cert.ReferenceIdeal Cert.ReferenceIdeal.Gen Cert.Fused.Net

variable (m : (ℓ : Loc nD τ sig) → Buf (Elt Ideal) ℓ)

/-- The argument arrays on a device. -/
def arrays (c : Dev nD) : Arrays where
  x0 := m ((c : Thread nD τ).loc main_arg0)
  x1 := m ((c : Thread nD τ).loc main_arg1)
  x2 := m ((c : Thread nD τ).loc main_arg2)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)
  x19 := m ((c : Thread nD τ).loc main_arg19)
  x20 := m ((c : Thread nD τ).loc main_arg20)
  x21 := m ((c : Thread nD τ).loc main_arg21)
  x22 := m ((c : Thread nD τ).loc main_arg22)
  x23 := m ((c : Thread nD τ).loc main_arg23)
  x24 := m ((c : Thread nD τ).loc main_arg24)
  x25 := m ((c : Thread nD τ).loc main_arg25)
  x26 := m ((c : Thread nD τ).loc main_arg26)
  x27 := m ((c : Thread nD τ).loc main_arg27)
  x28 := m ((c : Thread nD τ).loc main_arg28)
  x29 := m ((c : Thread nD τ).loc main_arg29)

/-- The result of the reference's run is the network's, where the edge mask is all ones. -/
theorem run_value (c : Dev nD) (ha : ∀ i, (arrays m c).x1 i = 1) :
    Host.divf (Value.res_main_v149 (launchContents m c)) (broadcastInDim S16 ![0] bcast_S1_S16_0 (broadcastInDim S1 ![] bcast_S_S1
      (Host.reduceAdd (Value.res_main_v149 (launchContents m c)) (constant S_ .f32 0x00000000#32) reducesTo_S16_S_d0 h_S_)))
      = fun i => out (inputsOf (arrays m c)) (i 0) := by
  rw [Read.val_main_v153_eq]
  funext i
  obtain ⟨o, rfl⟩ : ∃ o : Fin 16, i = ix1 o := ⟨i 0, eq_ix1 i⟩
  exact out_eq (arrays m c) ha o

end Cert.ReferenceIdeal.Fused
-- ==== Proof.Equal.lean ====
/- Kernel and reference leave the same result.

Both are the network of Shared/Net.lean on the argument arrays, where the precondition holds. -/
module

public import proofs.«01_k».proof.Defs
public import proofs.«01_k».proof.Proof.Precondition
public import proofs.«01_k».proof.Proof.KernelIdeal.Value
public import proofs.«01_k».proof.Proof.KernelIdeal.Blocks
public import proofs.«01_k».proof.Proof.KernelIdeal.Readout
public import proofs.«01_k».proof.Proof.Reference.Value
public import Idealize.ShloMosaic.Adequacy

@[expose] public section

set_option maxRecDepth 16384

noncomputable section

namespace Cert.Fused
open Idealize.ShloMosaic Idealize.SL.Sem Cert.Fused.Net

/-- What the precondition says of the kernel's arguments. -/
theorem reads_of_pre {m : (ℓ : Loc Cert.KernelIdeal.nD Cert.KernelIdeal.τ Cert.KernelIdeal.sig) → Buf (Elt Ideal) ℓ}
    (h : Cert.Pre_KernelIdeal_complete m) (c : Dev Cert.KernelIdeal.nD) :
    (∀ i, (Cert.KernelIdeal.Fused.arrays m c).x1 i = 1) ∧ FiniteInputs (inputsOf (Cert.KernelIdeal.Fused.arrays m c)) :=
  Cert.Pre_complete.reads_of_complete (Cert.KernelIdeal.Fused.arrays m c) _ (h c)

/-- The kernel's result is the network's. -/
theorem kernel_value (m : (ℓ : Loc Cert.KernelIdeal.nD Cert.KernelIdeal.τ Cert.KernelIdeal.sig) → Buf (Elt Ideal) ℓ)
    (c : Dev Cert.KernelIdeal.nD) (hf : FiniteInputs (inputsOf (Cert.KernelIdeal.Fused.arrays m c))) :
    shapeCast Cert.KernelIdeal.S16 (Cert.KernelIdeal.Fused.result (Cert.KernelIdeal.Fused.insSeq m c)) Cert.KernelIdeal.Gen.facts.shapeCasts_S1x16_S16
      = fun i => out (inputsOf (Cert.KernelIdeal.Fused.arrays m c)) (i 0) := by
  funext i
  obtain ⟨o, rfl⟩ : ∃ o : Fin 16, i = ix1 o := ⟨i 0, eq_ix1 i⟩
  have h := Cert.KernelIdeal.Fused.result_eq (Cert.KernelIdeal.Fused.reads m c) hf o
  generalize Cert.KernelIdeal.Fused.result (Cert.KernelIdeal.Fused.insSeq m c) = R at h ⊢
  pointwise
  exact h

/-- Started on the same arguments, the kernel and the reference end with the same result and keep their arguments. -/
theorem algebraic : Cert.algebraic_KernelIdeal_ReferenceIdeal_pre_complete := by
  intro m g m' g' hpre hargs
  refine ⟨fun c i => out (inputsOf (Cert.KernelIdeal.Fused.arrays m c)) (i 0), ?_, ?_⟩
  · refine (θ_run Cert.KernelIdeal.defs _ _).mono (fun r h c => ⟨(h.1 c).trans (kernel_value m c (reads_of_pre hpre c).2), h.2.1 c⟩)
      (θ_run_and (Cert.KernelIdeal.Fused.run_result m g) (Cert.KernelIdeal.Fused.frame m g))
  · refine (θ_run Cert.ReferenceIdeal.defs _ _).mono (fun r h c => ⟨(h c).1.trans ?_, (h c).2⟩) (Cert.ReferenceIdeal.Value.run m' g')
    have e : Cert.ReferenceIdeal.Fused.arrays m' c = Cert.KernelIdeal.Fused.arrays m c := by
      obtain ⟨h0, h1, h2, h3, h4, h5, h6, h7, h8, h9, h10, h11, h12, h13, h14, h15, h16, h17, h18, h19, h20, h21, h22, h23, h24, h25, h26, h27, h28, h29⟩ := hargs c
      simp only [Cert.ReferenceIdeal.Fused.arrays, Cert.KernelIdeal.Fused.arrays, Arrays.mk.injEq]
      exact ⟨h0, h1, h2, h4, h5, h6, h7, h8, h9, h10, h11, h12, h13, h14, h15, h16, h17, h18, h19, h20, h21, h22, h23, h24, h25, h26, h27, h28, h29⟩
    have v := Cert.ReferenceIdeal.Fused.run_value m' c (by rw [e]; exact (reads_of_pre hpre c).1)
    rw [e] at v
    exact v

end Cert.Fused
-- ==== Proof.lean ====
module

public import proofs.«01_k».proof.Defs
public import proofs.«01_k».proof.Proof.Same.Frame
public import proofs.«01_k».proof.Proof.KernelIdeal.Frame
public import proofs.«01_k».proof.Proof.Reference.Frame
public import proofs.«01_k».proof.Proof.Equal
public import Idealize.ShloMosaic.Adequacy
public import Idealize.ShloMosaic.Init

@[expose] public section

noncomputable section

namespace Cert.Proof

open Idealize.ShloMosaic Idealize.SL.Sem

/-- The three programs end with their arguments kept and every semaphore at zero, the kernel is its own idealization, and
    where the precondition holds kernel and reference end with the same result. -/
theorem claim : Cert.Claim := by
  have hr : Cert.quiescent_ReferenceIdeal := fun m g _ => (θ_run Cert.ReferenceIdeal.defs _ _).mono
    (fun r h => ⟨fun c => (h c).2, Cert.ReferenceIdeal.Fused.sem_zero r.2⟩) (Cert.ReferenceIdeal.Value.run m g)
  exact ⟨Cert.Kernel.Gen.facts, Cert.KernelIdeal.Gen.facts, Cert.ReferenceIdeal.Gen.facts, Cert.Pre_complete.facts,
    Cert.Same.frame,
    fun m g _ => Cert.KernelIdeal.Fused.frame m g,
    fun m g _ => Cert.KernelIdeal.Fused.frame m g,
    hr, fun m g _ => hr m g trivial,
    trivial, Cert.Fused.algebraic⟩

end Cert.Proof
